-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x512 : Shape := ⟨3, ![16, 512, 512]⟩
abbrev S16x512 : Shape := ⟨2, ![16, 512]⟩
abbrev S16 : Shape := ⟨1, ![16]⟩
abbrev S768x256 : Shape := ⟨2, ![768, 256]⟩
abbrev S256 : Shape := ⟨1, ![256]⟩
abbrev S512x16 : Shape := ⟨2, ![512, 16]⟩
abbrev S512x16x1 : Shape := ⟨3, ![512, 16, 1]⟩
abbrev S16x1 : Shape := ⟨2, ![16, 1]⟩
abbrev S512x256 : Shape := ⟨2, ![512, 256]⟩
abbrev S512x1792 : Shape := ⟨2, ![512, 1792]⟩
abbrev S256x256 : Shape := ⟨2, ![256, 256]⟩
abbrev S256x1792 : Shape := ⟨2, ![256, 1792]⟩
abbrev S1792 : Shape := ⟨1, ![1792]⟩
abbrev S1x1792 : Shape := ⟨2, ![1, 1792]⟩
abbrev S16x512x256 : Shape := ⟨3, ![16, 512, 256]⟩
abbrev S16x128x512 : Shape := ⟨3, ![16, 128, 512]⟩
abbrev S128x16x1 : Shape := ⟨3, ![128, 16, 1]⟩
abbrev S16x128x256 : Shape := ⟨3, ![16, 128, 256]⟩
abbrev S16x256 : Shape := ⟨2, ![16, 256]⟩
abbrev S2048x1792 : Shape := ⟨2, ![2048, 1792]⟩
abbrev S128x16x256 : Shape := ⟨3, ![128, 16, 256]⟩
abbrev S128x16x512 : Shape := ⟨3, ![128, 16, 512]⟩
abbrev S2048x512 : Shape := ⟨2, ![2048, 512]⟩
abbrev S16x1792 : Shape := ⟨2, ![16, 1792]⟩
abbrev S16x1280 : Shape := ⟨2, ![16, 1280]⟩
abbrev S1x16x1 : Shape := ⟨3, ![1, 16, 1]⟩
abbrev S1x16x256 : Shape := ⟨3, ![1, 16, 256]⟩

abbrev nBuf : Space → Nat
  | .hbm => 41
  | .vmem => 15
  | .smem => 0
  | _ => 0

abbrev bufTy : (tb : Table) → Fin (tcTables nBuf tb) → BufTy
  | .hbm, ⟨0, _⟩ => ⟨S16x512x512, .f32⟩
  | .hbm, ⟨1, _⟩ => ⟨S16x512, .f32⟩
  | .hbm, ⟨2, _⟩ => ⟨S16, .i32⟩
  | .hbm, ⟨3, _⟩ => ⟨S768x256, .f32⟩
  | .hbm, ⟨4, _⟩ => ⟨S256, .f32⟩
  | .hbm, ⟨5, _⟩ => ⟨S768x256, .f32⟩
  | .hbm, ⟨6, _⟩ => ⟨S256, .f32⟩
  | .hbm, ⟨7, _⟩ => ⟨S768x256, .f32⟩
  | .hbm, ⟨8, _⟩ => ⟨S256, .f32⟩
  | .hbm, ⟨9, _⟩ => ⟨S768x256, .f32⟩
  | .hbm, ⟨10, _⟩ => ⟨S256, .f32⟩
  | .hbm, ⟨11, _⟩ => ⟨S768x256, .f32⟩
  | .hbm, ⟨12, _⟩ => ⟨S256, .f32⟩
  | .hbm, ⟨13, _⟩ => ⟨S768x256, .f32⟩
  | .hbm, ⟨14, _⟩ => ⟨S256, .f32⟩
  | .hbm, ⟨15, _⟩ => ⟨S768x256, .f32⟩
  | .hbm, ⟨16, _⟩ => ⟨S256, .f32⟩
  | .hbm, ⟨17, _⟩ => ⟨S512x16, .f32⟩
  | .hbm, ⟨18, _⟩ => ⟨S512x16x1, .f32⟩
  | .hbm, ⟨19, _⟩ => ⟨S16x1, .i32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S512x1792, .f32⟩
  | .hbm, ⟨28, _⟩ => ⟨S512x1792, .bf16⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x1792, .f32⟩
  | .hbm, ⟨37, _⟩ => ⟨S256x1792, .bf16⟩
  | .hbm, ⟨38, _⟩ => ⟨S1792, .f32⟩
  | .hbm, ⟨39, _⟩ => ⟨S1x1792, .f32⟩
  | .hbm, ⟨40, _⟩ => ⟨S16x512x256, .f32⟩
  | .local _ .vmem, ⟨0, _⟩ => ⟨S16x128x512, .f32⟩
  | .local _ .vmem, ⟨1, _⟩ => ⟨S16x128x512, .f32⟩
  | .local _ .vmem, ⟨2, _⟩ => ⟨S128x16x1, .f32⟩
  | .local _ .vmem, ⟨3, _⟩ => ⟨S128x16x1, .f32⟩
  | .local _ .vmem, ⟨4, _⟩ => ⟨S16x1, .i32⟩
  | .local _ .vmem, ⟨5, _⟩ => ⟨S512x1792, .bf16⟩
  | .local _ .vmem, ⟨6, _⟩ => ⟨S256x1792, .bf16⟩
  | .local _ .vmem, ⟨7, _⟩ => ⟨S1x1792, .f32⟩
  | .local _ .vmem, ⟨8, _⟩ => ⟨S16x128x256, .f32⟩
  | .local _ .vmem, ⟨9, _⟩ => ⟨S16x128x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S2048x1792, .f32⟩
  | .local _ .vmem, ⟨14, _⟩ => ⟨S128x16x256, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_19 : BitVec 32 := 0#32
  let c128_i32_20 : BitVec 32 := 128#32
  let v25 : BitVec 32 := Scalar.addi c0_i32_19 c128_i32_20
  let c1_i32 : BitVec 32 := 1#32
  ⟨c0_i32_19, v25, c1_i32⟩
def k0_off1 (k0_t1 : Fin k0_t1_loop.trips) : Fin 2 → Nat :=
  let c0_i32_19 : BitVec 32 := 0#32
  let c1_i32 : BitVec 32 := 1#32
  let arg13 : BitVec 32 := Scf.iv c0_i32_19 c1_i32 k0_t1
  let c16_i32 : BitVec 32 := 16#32
  let v39 : BitVec 32 := Scalar.muli arg13 c16_i32
  let v40 : Index := Scalar.indexCast v39
  let c0_34 : Index := 0#32
  ![v40.toNat, 0]
def k0_off2 (k0_t1 : Fin k0_t1_loop.trips) : Fin 3 → Nat :=
  let c0_i32_19 : BitVec 32 := 0#32
  let c1_i32 : BitVec 32 := 1#32
  let arg13 : BitVec 32 := Scf.iv c0_i32_19 c1_i32 k0_t1
  let v69 : Index := Scalar.indexCast arg13
  let c0_38 : Index := 0#32
  let c0_39 : Index := 0#32
  ![v69.toNat, 0, 0]
def k0_off3 (k0_t1 : Fin k0_t1_loop.trips) : Fin 3 → Nat :=
  let c0_i32_19 : BitVec 32 := 0#32
  let c1_i32 : BitVec 32 := 1#32
  let arg13 : BitVec 32 := Scf.iv c0_i32_19 c1_i32 k0_t1
  let v94 : Index := Scalar.indexCast arg13
  let c0_41 : Index := 0#32
  let c0_42 : Index := 0#32
  ![v94.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x512x512 : Shape := ⟨3, ![16, 512, 512]⟩
abbrev S16x512 : Shape := ⟨2, ![16, 512]⟩
abbrev S16 : Shape := ⟨1, ![16]⟩
abbrev S768x256 : Shape := ⟨2, ![768, 256]⟩
abbrev S256 : Shape := ⟨1, ![256]⟩
abbrev S_ : Shape := ⟨0, ![]⟩
abbrev S16x256 : Shape := ⟨2, ![16, 256]⟩
abbrev S512x16x512 : Shape := ⟨3, ![512, 16, 512]⟩
abbrev S512x16 : Shape := ⟨2, ![512, 16]⟩
abbrev S512x16x256 : Shape := ⟨3, ![512, 16, 256]⟩
abbrev S1x16x512 : Shape := ⟨3, ![1, 16, 512]⟩
abbrev S1x16 : Shape := ⟨2, ![1, 16]⟩
abbrev S16x768 : Shape := ⟨2, ![16, 768]⟩
abbrev S1x256 : Shape := ⟨2, ![1, 256]⟩
abbrev S16x1 : Shape := ⟨2, ![16, 1]⟩
abbrev S1x16x256 : Shape := ⟨3, ![1, 16, 256]⟩
abbrev S16x512x256 : Shape := ⟨3, ![16, 512, 256]⟩

abbrev nBuf : Space → Nat
  | .hbm => 198
  | .vmem => 0
  | .smem => 0
  | _ => 0

abbrev hbmTy0_0 (i : Nat) : BufTy := match i % 128 with
  | 0 => ⟨S16x512x512, .f32⟩
  | 1 => ⟨S16x512, .f32⟩
  | 2 => ⟨S16, .i32⟩
  | 3 => ⟨S768x256, .f32⟩
  | 4 => ⟨S256, .f32⟩
  | 5 => ⟨S768x256, .f32⟩
  | 6 => ⟨S256, .f32⟩
  | 7 => ⟨S768x256, .f32⟩
  | 8 => ⟨S256, .f32⟩
  | 9 => ⟨S768x256, .f32⟩
  | 10 => ⟨S256, .f32⟩
  | 11 => ⟨S768x256, .f32⟩
  | 12 => ⟨S256, .f32⟩
  | 13 => ⟨S768x256, .f32⟩
  | 14 => ⟨S256, .f32⟩
  | 15 => ⟨S768x256, .f32⟩
  | 16 => ⟨S256, .f32⟩
  | 17 => ⟨S_, .f32⟩
  | 18 => ⟨S16x256, .f32⟩
  | 19 => ⟨S_, .f32⟩
  | 20 => ⟨S16x256, .f32⟩
  | 21 => ⟨S_, .f32⟩
  | 22 => ⟨S16x256, .f32⟩
  | 23 => ⟨S512x16x512, .f32⟩
  | 24 => ⟨S512x16, .f32⟩
  | 25 => ⟨S_, .i32⟩
  | 26 => ⟨S_, .f32⟩
  | 27 => ⟨S512x16x256, .f32⟩
  | 28 => ⟨S_, .i32⟩
  | 29 => ⟨S512x16x512, .f32⟩
  | 30 => ⟨S512x16, .f32⟩
  | 31 => ⟨S768x256, .f32⟩
  | 32 => ⟨S256, .f32⟩
  | 33 => ⟨S768x256, .f32⟩
  | 34 => ⟨S256, .f32⟩
  | 35 => ⟨S768x256, .f32⟩
  | 36 => ⟨S256, .f32⟩
  | 37 => ⟨S768x256, .f32⟩
  | 38 => ⟨S256, .f32⟩
  | 39 => ⟨S768x256, .f32⟩
  | 40 => ⟨S256, .f32⟩
  | 41 => ⟨S768x256, .f32⟩
  | 42 => ⟨S256, .f32⟩
  | 43 => ⟨S768x256, .f32⟩
  | 44 => ⟨S256, .f32⟩
  | 45 => ⟨S16, .i32⟩
  | 46 => ⟨S_, .i32⟩
  | 47 => ⟨S16x256, .f32⟩
  | 48 => ⟨S16x256, .f32⟩
  | 49 => ⟨S16x256, .f32⟩
  | 50 => ⟨S_, .i32⟩
  | 51 => ⟨S512x16x256, .f32⟩
  | 52 => ⟨S_, .i32⟩
  | 53 => ⟨S_, .i1⟩
  | 54 => ⟨S_, .i32⟩
  | 55 => ⟨S_, .i32⟩
  | 56 => ⟨S1x16x512, .f32⟩
  | 57 => ⟨S16x512, .f32⟩
  | 58 => ⟨S_, .i32⟩
  | 59 => ⟨S1x16, .f32⟩
  | 60 => ⟨S16, .f32⟩
  | 61 => ⟨S16x768, .f32⟩
  | 62 => ⟨S16x256, .f32⟩
  | 63 => ⟨S1x256, .f32⟩
  | 64 => ⟨S16x256, .f32⟩
  | 65 => ⟨S16x256, .f32⟩
  | 66 => ⟨S16x256, .f32⟩
  | 67 => ⟨S16x256, .f32⟩
  | 68 => ⟨S_, .f32⟩
  | 69 => ⟨S16x256, .f32⟩
  | 70 => ⟨S16x256, .f32⟩
  | 71 => ⟨S_, .f32⟩
  | 72 => ⟨S16x256, .f32⟩
  | 73 => ⟨S16x256, .f32⟩
  | 74 => ⟨S16x256, .f32⟩
  | 75 => ⟨S1x256, .f32⟩
  | 76 => ⟨S16x256, .f32⟩
  | 77 => ⟨S16x256, .f32⟩
  | 78 => ⟨S16x256, .f32⟩
  | 79 => ⟨S16x256, .f32⟩
  | 80 => ⟨S_, .f32⟩
  | 81 => ⟨S16x256, .f32⟩
  | 82 => ⟨S16x256, .f32⟩
  | 83 => ⟨S_, .f32⟩
  | 84 => ⟨S16x256, .f32⟩
  | 85 => ⟨S16x256, .f32⟩
  | 86 => ⟨S16x256, .f32⟩
  | 87 => ⟨S1x256, .f32⟩
  | 88 => ⟨S16x256, .f32⟩
  | 89 => ⟨S16x256, .f32⟩
  | 90 => ⟨S16x256, .f32⟩
  | 91 => ⟨S16x256, .f32⟩
  | 92 => ⟨S_, .f32⟩
  | 93 => ⟨S16x256, .f32⟩
  | 94 => ⟨S16x256, .f32⟩
  | 95 => ⟨S_, .f32⟩
  | 96 => ⟨S16x256, .f32⟩
  | 97 => ⟨S16x256, .f32⟩
  | 98 => ⟨S16x256, .f32⟩
  | 99 => ⟨S1x256, .f32⟩
  | 100 => ⟨S16x256, .f32⟩
  | 101 => ⟨S16x256, .f32⟩
  | 102 => ⟨S16x256, .f32⟩
  | 103 => ⟨S16x256, .f32⟩
  | 104 => ⟨S_, .f32⟩
  | 105 => ⟨S16x256, .f32⟩
  | 106 => ⟨S16x256, .f32⟩
  | 107 => ⟨S_, .f32⟩
  | 108 => ⟨S16x256, .f32⟩
  | 109 => ⟨S16x256, .f32⟩
  | 110 => ⟨S16x256, .f32⟩
  | 111 => ⟨S1x256, .f32⟩
  | 112 => ⟨S16x256, .f32⟩
  | 113 => ⟨S16x256, .f32⟩
  | 114 => ⟨S16x256, .f32⟩
  | 115 => ⟨S16x256, .f32⟩
  | 116 => ⟨S_, .f32⟩
  | 117 => ⟨S16x256, .f32⟩
  | 118 => ⟨S16x256, .f32⟩
  | 119 => ⟨S_, .f32⟩
  | 120 => ⟨S16x256, .f32⟩
  | 121 => ⟨S16x256, .f32⟩
  | 122 => ⟨S16x256, .f32⟩
  | 123 => ⟨S1x256, .f32⟩
  | 124 => ⟨S16x256, .f32⟩
  | 125 => ⟨S16x256, .f32⟩
  | 126 => ⟨S16x256, .f32⟩
  | 127 => ⟨S16x256, .f32⟩
  | _ => ⟨S16x512x512, .f32⟩

abbrev hbmTy0_1 (i : Nat) : BufTy := match i % 128 with
  | 0 => ⟨S1x256, .f32⟩
  | 1 => ⟨S16x256, .f32⟩
  | 2 => ⟨S16x256, .f32⟩
  | 3 => ⟨S_, .f32⟩
  | 4 => ⟨S16x256, .f32⟩
  | 5 => ⟨S16x256, .f32⟩
  | 6 => ⟨S16x256, .f32⟩
  | 7 => ⟨S16x256, .f32⟩
  | 8 => ⟨S16x256, .i1⟩
  | 9 => ⟨S16x256, .f32⟩
  | 10 => ⟨S16x256, .f32⟩
  | 11 => ⟨S16x256, .f32⟩
  | 12 => ⟨S16x256, .f32⟩
  | 13 => ⟨S16x256, .f32⟩
  | 14 => ⟨S16x256, .f32⟩
  | 15 => ⟨S16x256, .f32⟩
  | 16 => ⟨S16x256, .f32⟩
  | 17 => ⟨S16x256, .f32⟩
  | 18 => ⟨S16x256, .f32⟩
  | 19 => ⟨S16x256, .f32⟩
  | 20 => ⟨S16x256, .f32⟩
  | 21 => ⟨S16x256, .f32⟩
  | 22 => ⟨S16x256, .f32⟩
  | 23 => ⟨S16x256, .f32⟩
  | 24 => ⟨S16x256, .f32⟩
  | 25 => ⟨S16x1, .f32⟩
  | 26 => ⟨S16x256, .f32⟩
  | 27 => ⟨S16x256, .f32⟩
  | 28 => ⟨S16x256, .f32⟩
  | 29 => ⟨S16x256, .f32⟩
  | 30 => ⟨S16x256, .f32⟩
  | 31 => ⟨S16x256, .f32⟩
  | 32 => ⟨S16x256, .f32⟩
  | 33 => ⟨S16, .i32⟩
  | 34 => ⟨S16, .i1⟩
  | 35 => ⟨S16x1, .i1⟩
  | 36 => ⟨S16x1, .f32⟩
  | 37 => ⟨S16x256, .f32⟩
  | 38 => ⟨S16x256, .f32⟩
  | 39 => ⟨S_, .f32⟩
  | 40 => ⟨S16x1, .f32⟩
  | 41 => ⟨S16x1, .f32⟩
  | 42 => ⟨S16x256, .f32⟩
  | 43 => ⟨S16x256, .f32⟩
  | 44 => ⟨S16x256, .f32⟩
  | 45 => ⟨S16x256, .f32⟩
  | 46 => ⟨S16x256, .f32⟩
  | 47 => ⟨S_, .f32⟩
  | 48 => ⟨S16x1, .f32⟩
  | 49 => ⟨S16x1, .f32⟩
  | 50 => ⟨S16x256, .f32⟩
  | 51 => ⟨S16x256, .f32⟩
  | 52 => ⟨S16x256, .f32⟩
  | 53 => ⟨S16x256, .f32⟩
  | 54 => ⟨S16x256, .f32⟩
  | 55 => ⟨S_, .f32⟩
  | 56 => ⟨S16x1, .f32⟩
  | 57 => ⟨S16x1, .f32⟩
  | 58 => ⟨S16x256, .f32⟩
  | 59 => ⟨S16x256, .f32⟩
  | 60 => ⟨S16x256, .f32⟩
  | 61 => ⟨S_, .i32⟩
  | 62 => ⟨S_, .i32⟩
  | 63 => ⟨S1x16x256, .f32⟩
  | 64 => ⟨S_, .i32⟩
  | 65 => ⟨S_, .i32⟩
  | 66 => ⟨S512x16x256, .f32⟩
  | 67 => ⟨S_, .i32⟩
  | 68 => ⟨S_, .i32⟩
  | 69 => ⟨S16x512x256, .f32⟩
  | _ => ⟨S16x512x512, .f32⟩

abbrev hbmTy (i : Nat) : BufTy := match i / 128 with
  | 0 => hbmTy0_0 i
  | 1 => hbmTy0_1 i
  | _ => ⟨S16x512x512, .f32⟩

abbrev bufTy : (tb : Table) → Fin (tcTables nBuf tb) → BufTy
  | .hbm, ⟨i, _⟩ => hbmTy i
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_cst_1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_cst_2 : Ref sig .tc := ⟨.hbm, 26, rfl⟩
abbrev main_v5 : Ref sig .tc := ⟨.hbm, 27, rfl⟩
abbrev main_c_3 : Ref sig .tc := ⟨.hbm, 28, rfl⟩
abbrev main_v6_0 : Ref sig .tc := ⟨.hbm, 29, rfl⟩
abbrev main_v6_1 : Ref sig .tc := ⟨.hbm, 30, rfl⟩
abbrev main_v6_2 : Ref sig .tc := ⟨.hbm, 31, rfl⟩
abbrev main_v6_3 : Ref sig .tc := ⟨.hbm, 32, rfl⟩
abbrev main_v6_4 : Ref sig .tc := ⟨.hbm, 33, rfl⟩
abbrev main_v6_5 : Ref sig .tc := ⟨.hbm, 34, rfl⟩
abbrev main_v6_6 : Ref sig .tc := ⟨.hbm, 35, rfl⟩
abbrev main_v6_7 : Ref sig .tc := ⟨.hbm, 36, rfl⟩
abbrev main_v6_8 : Ref sig .tc := ⟨.hbm, 37, rfl⟩
abbrev main_v6_9 : Ref sig .tc := ⟨.hbm, 38, rfl⟩
abbrev main_v6_10 : Ref sig .tc := ⟨.hbm, 39, rfl⟩
abbrev main_v6_11 : Ref sig .tc := ⟨.hbm, 40, rfl⟩
abbrev main_v6_12 : Ref sig .tc := ⟨.hbm, 41, rfl⟩
abbrev main_v6_13 : Ref sig .tc := ⟨.hbm, 42, rfl⟩
abbrev main_v6_14 : Ref sig .tc := ⟨.hbm, 43, rfl⟩
abbrev main_v6_15 : Ref sig .tc := ⟨.hbm, 44, rfl⟩
abbrev main_v6_16 : Ref sig .tc := ⟨.hbm, 45, rfl⟩
abbrev main_v6_17 : Ref sig .tc := ⟨.hbm, 46, rfl⟩
abbrev main_v6_18 : Ref sig .tc := ⟨.hbm, 47, rfl⟩
abbrev main_v6_19 : Ref sig .tc := ⟨.hbm, 48, rfl⟩
abbrev main_v6_20 : Ref sig .tc := ⟨.hbm, 49, rfl⟩
abbrev main_v6_21 : Ref sig .tc := ⟨.hbm, 50, rfl⟩
abbrev main_v6_22 : Ref sig .tc := ⟨.hbm, 51, rfl⟩
abbrev main_while0c_c_26 : Ref sig .tc := ⟨.hbm, 52, rfl⟩
abbrev main_while0c_v8 : Ref sig .tc := ⟨.hbm, 53, rfl⟩
abbrev main_while0b_call0_c : Ref sig .tc := ⟨.hbm, 54, rfl⟩
abbrev main_while0b_call0_c_0 : Ref sig .tc := ⟨.hbm, 55, rfl⟩
abbrev main_while0b_call0_v0 : Ref sig .tc := ⟨.hbm, 56, rfl⟩
abbrev main_while0b_v8 : Ref sig .tc := ⟨.hbm, 57, rfl⟩
abbrev main_while0b_call1_c : Ref sig .tc := ⟨.hbm, 58, rfl⟩
abbrev main_while0b_call1_v0 : Ref sig .tc := ⟨.hbm, 59, rfl⟩
abbrev main_while0b_v9 : Ref sig .tc := ⟨.hbm, 60, rfl⟩
abbrev main_while0b_v10 : Ref sig .tc := ⟨.hbm, 61, rfl⟩
abbrev main_while0b_v11 : Ref sig .tc := ⟨.hbm, 62, rfl⟩
abbrev main_while0b_v12 : Ref sig .tc := ⟨.hbm, 63, rfl⟩
abbrev main_while0b_v13 : Ref sig .tc := ⟨.hbm, 64, rfl⟩
abbrev main_while0b_v14 : Ref sig .tc := ⟨.hbm, 65, rfl⟩
abbrev main_while0b_v15 : Ref sig .tc := ⟨.hbm, 66, rfl⟩
abbrev main_while0b_v16 : Ref sig .tc := ⟨.hbm, 67, rfl⟩
abbrev main_while0b_cst_26 : Ref sig .tc := ⟨.hbm, 68, rfl⟩
abbrev main_while0b_v17 : Ref sig .tc := ⟨.hbm, 69, rfl⟩
abbrev main_while0b_v18 : Ref sig .tc := ⟨.hbm, 70, rfl⟩
abbrev main_while0b_cst_27 : Ref sig .tc := ⟨.hbm, 71, rfl⟩
abbrev main_while0b_v19 : Ref sig .tc := ⟨.hbm, 72, rfl⟩
abbrev main_while0b_v20 : Ref sig .tc := ⟨.hbm, 73, rfl⟩
abbrev main_while0b_v21 : Ref sig .tc := ⟨.hbm, 74, rfl⟩
abbrev main_while0b_v22 : Ref sig .tc := ⟨.hbm, 75, rfl⟩
abbrev main_while0b_v23 : Ref sig .tc := ⟨.hbm, 76, rfl⟩
abbrev main_while0b_v24 : Ref sig .tc := ⟨.hbm, 77, rfl⟩
abbrev main_while0b_v25 : Ref sig .tc := ⟨.hbm, 78, rfl⟩
abbrev main_while0b_v26 : Ref sig .tc := ⟨.hbm, 79, rfl⟩
abbrev main_while0b_cst_28 : Ref sig .tc := ⟨.hbm, 80, rfl⟩
abbrev main_while0b_v27 : Ref sig .tc := ⟨.hbm, 81, rfl⟩
abbrev main_while0b_v28 : Ref sig .tc := ⟨.hbm, 82, rfl⟩
abbrev main_while0b_cst_29 : Ref sig .tc := ⟨.hbm, 83, rfl⟩
abbrev main_while0b_v29 : Ref sig .tc := ⟨.hbm, 84, rfl⟩
abbrev main_while0b_v30 : Ref sig .tc := ⟨.hbm, 85, rfl⟩
abbrev main_while0b_v31 : Ref sig .tc := ⟨.hbm, 86, rfl⟩
abbrev main_while0b_v32 : Ref sig .tc := ⟨.hbm, 87, rfl⟩
abbrev main_while0b_v33 : Ref sig .tc := ⟨.hbm, 88, rfl⟩
abbrev main_while0b_v34 : Ref sig .tc := ⟨.hbm, 89, rfl⟩
abbrev main_while0b_v35 : Ref sig .tc := ⟨.hbm, 90, rfl⟩
abbrev main_while0b_v36 : Ref sig .tc := ⟨.hbm, 91, rfl⟩
abbrev main_while0b_cst_30 : Ref sig .tc := ⟨.hbm, 92, rfl⟩
abbrev main_while0b_v37 : Ref sig .tc := ⟨.hbm, 93, rfl⟩
abbrev main_while0b_v38 : Ref sig .tc := ⟨.hbm, 94, rfl⟩
abbrev main_while0b_cst_31 : Ref sig .tc := ⟨.hbm, 95, rfl⟩
abbrev main_while0b_v39 : Ref sig .tc := ⟨.hbm, 96, rfl⟩
abbrev main_while0b_v40 : Ref sig .tc := ⟨.hbm, 97, rfl⟩
abbrev main_while0b_v41 : Ref sig .tc := ⟨.hbm, 98, rfl⟩
abbrev main_while0b_v42 : Ref sig .tc := ⟨.hbm, 99, rfl⟩
abbrev main_while0b_v43 : Ref sig .tc := ⟨.hbm, 100, rfl⟩
abbrev main_while0b_v44 : Ref sig .tc := ⟨.hbm, 101, rfl⟩
abbrev main_while0b_v45 : Ref sig .tc := ⟨.hbm, 102, rfl⟩
abbrev main_while0b_v46 : Ref sig .tc := ⟨.hbm, 103, rfl⟩
abbrev main_while0b_cst_32 : Ref sig .tc := ⟨.hbm, 104, rfl⟩
abbrev main_while0b_v47 : Ref sig .tc := ⟨.hbm, 105, rfl⟩
abbrev main_while0b_v48 : Ref sig .tc := ⟨.hbm, 106, rfl⟩
abbrev main_while0b_cst_33 : Ref sig .tc := ⟨.hbm, 107, rfl⟩
abbrev main_while0b_v49 : Ref sig .tc := ⟨.hbm, 108, rfl⟩
abbrev main_while0b_v50 : Ref sig .tc := ⟨.hbm, 109, rfl⟩
abbrev main_while0b_v51 : Ref sig .tc := ⟨.hbm, 110, rfl⟩
abbrev main_while0b_v52 : Ref sig .tc := ⟨.hbm, 111, rfl⟩
abbrev main_while0b_v53 : Ref sig .tc := ⟨.hbm, 112, rfl⟩
abbrev main_while0b_v54 : Ref sig .tc := ⟨.hbm, 113, rfl⟩
abbrev main_while0b_v55 : Ref sig .tc := ⟨.hbm, 114, rfl⟩
abbrev main_while0b_v56 : Ref sig .tc := ⟨.hbm, 115, rfl⟩
abbrev main_while0b_cst_34 : Ref sig .tc := ⟨.hbm, 116, rfl⟩
abbrev main_while0b_v57 : Ref sig .tc := ⟨.hbm, 117, rfl⟩
abbrev main_while0b_v58 : Ref sig .tc := ⟨.hbm, 118, rfl⟩
abbrev main_while0b_cst_35 : Ref sig .tc := ⟨.hbm, 119, rfl⟩
abbrev main_while0b_v59 : Ref sig .tc := ⟨.hbm, 120, rfl⟩
abbrev main_while0b_v60 : Ref sig .tc := ⟨.hbm, 121, rfl⟩
abbrev main_while0b_v61 : Ref sig .tc := ⟨.hbm, 122, rfl⟩
abbrev main_while0b_v62 : Ref sig .tc := ⟨.hbm, 123, rfl⟩
abbrev main_while0b_v63 : Ref sig .tc := ⟨.hbm, 124, rfl⟩
abbrev main_while0b_v64 : Ref sig .tc := ⟨.hbm, 125, rfl⟩
abbrev main_while0b_v65 : Ref sig .tc := ⟨.hbm, 126, rfl⟩
abbrev main_while0b_v66 : Ref sig .tc := ⟨.hbm, 127, rfl⟩
abbrev main_while0b_v67 : Ref sig .tc := ⟨.hbm, 128, rfl⟩
abbrev main_while0b_v68 : Ref sig .tc := ⟨.hbm, 129, rfl⟩
abbrev main_while0b_v69 : Ref sig .tc := ⟨.hbm, 130, rfl⟩
abbrev main_while0b_call2_cst : Ref sig .tc := ⟨.hbm, 131, rfl⟩
abbrev main_while0b_call2_v0 : Ref sig .tc := ⟨.hbm, 132, rfl⟩
abbrev main_while0b_call2_v1 : Ref sig .tc := ⟨.hbm, 133, rfl⟩
abbrev main_while0b_call2_v2 : Ref sig .tc := ⟨.hbm, 134, rfl⟩
abbrev main_while0b_call2_v3 : Ref sig .tc := ⟨.hbm, 135, rfl⟩
abbrev main_while0b_call2_v4 : Ref sig .tc := ⟨.hbm, 136, rfl⟩
abbrev main_while0b_call2_v5 : Ref sig .tc := ⟨.hbm, 137, rfl⟩
abbrev main_while0b_call2_v6 : Ref sig .tc := ⟨.hbm, 138, rfl⟩
abbrev main_while0b_call2_v7 : Ref sig .tc := ⟨.hbm, 139, rfl⟩
abbrev main_while0b_call2_v8 : Ref sig .tc := ⟨.hbm, 140, rfl⟩
abbrev main_while0b_call2_v9 : Ref sig .tc := ⟨.hbm, 141, rfl⟩
abbrev main_while0b_call2_v10 : Ref sig .tc := ⟨.hbm, 142, rfl⟩
abbrev main_while0b_call2_v11 : Ref sig .tc := ⟨.hbm, 143, rfl⟩
abbrev main_while0b_v70 : Ref sig .tc := ⟨.hbm, 144, rfl⟩
abbrev main_while0b_v71 : Ref sig .tc := ⟨.hbm, 145, rfl⟩
abbrev main_while0b_v72 : Ref sig .tc := ⟨.hbm, 146, rfl⟩
abbrev main_while0b_v73 : Ref sig .tc := ⟨.hbm, 147, rfl⟩
abbrev main_while0b_v74 : Ref sig .tc := ⟨.hbm, 148, rfl⟩
abbrev main_while0b_v75 : Ref sig .tc := ⟨.hbm, 149, rfl⟩
abbrev main_while0b_v76 : Ref sig .tc := ⟨.hbm, 150, rfl⟩
abbrev main_while0b_v77 : Ref sig .tc := ⟨.hbm, 151, rfl⟩
abbrev main_while0b_v78 : Ref sig .tc := ⟨.hbm, 152, rfl⟩
abbrev main_while0b_v79 : Ref sig .tc := ⟨.hbm, 153, rfl⟩
abbrev main_while0b_v80 : Ref sig .tc := ⟨.hbm, 154, rfl⟩
abbrev main_while0b_v81 : Ref sig .tc := ⟨.hbm, 155, rfl⟩
abbrev main_while0b_v82 : Ref sig .tc := ⟨.hbm, 156, rfl⟩
abbrev main_while0b_v83 : Ref sig .tc := ⟨.hbm, 157, rfl⟩
abbrev main_while0b_v84 : Ref sig .tc := ⟨.hbm, 158, rfl⟩
abbrev main_while0b_v85 : Ref sig .tc := ⟨.hbm, 159, rfl⟩
abbrev main_while0b_v86 : Ref sig .tc := ⟨.hbm, 160, rfl⟩
abbrev main_while0b_v87 : Ref sig .tc := ⟨.hbm, 161, rfl⟩
abbrev main_while0b_v88 : Ref sig .tc := ⟨.hbm, 162, rfl⟩
abbrev main_while0b_v89 : Ref sig .tc := ⟨.hbm, 163, rfl⟩
abbrev main_while0b_v90 : Ref sig .tc := ⟨.hbm, 164, rfl⟩
abbrev main_while0b_v91 : Ref sig .tc := ⟨.hbm, 165, rfl⟩
abbrev main_while0b_v92 : Ref sig .tc := ⟨.hbm, 166, rfl⟩
abbrev main_while0b_cst_36 : Ref sig .tc := ⟨.hbm, 167, rfl⟩
abbrev main_while0b_v93 : Ref sig .tc := ⟨.hbm, 168, rfl⟩
abbrev main_while0b_v94 : Ref sig .tc := ⟨.hbm, 169, rfl⟩
abbrev main_while0b_v95 : Ref sig .tc := ⟨.hbm, 170, rfl⟩
abbrev main_while0b_v96 : Ref sig .tc := ⟨.hbm, 171, rfl⟩
abbrev main_while0b_v97 : Ref sig .tc := ⟨.hbm, 172, rfl⟩
abbrev main_while0b_v98 : Ref sig .tc := ⟨.hbm, 173, rfl⟩
abbrev main_while0b_v99 : Ref sig .tc := ⟨.hbm, 174, rfl⟩
abbrev main_while0b_cst_37 : Ref sig .tc := ⟨.hbm, 175, rfl⟩
abbrev main_while0b_v100 : Ref sig .tc := ⟨.hbm, 176, rfl⟩
abbrev main_while0b_v101 : Ref sig .tc := ⟨.hbm, 177, rfl⟩
abbrev main_while0b_v102 : Ref sig .tc := ⟨.hbm, 178, rfl⟩
abbrev main_while0b_v103 : Ref sig .tc := ⟨.hbm, 179, rfl⟩
abbrev main_while0b_v104 : Ref sig .tc := ⟨.hbm, 180, rfl⟩
abbrev main_while0b_v105 : Ref sig .tc := ⟨.hbm, 181, rfl⟩
abbrev main_while0b_v106 : Ref sig .tc := ⟨.hbm, 182, rfl⟩
abbrev main_while0b_cst_38 : Ref sig .tc := ⟨.hbm, 183, rfl⟩
abbrev main_while0b_v107 : Ref sig .tc := ⟨.hbm, 184, rfl⟩
abbrev main_while0b_v108 : Ref sig .tc := ⟨.hbm, 185, rfl⟩
abbrev main_while0b_v109 : Ref sig .tc := ⟨.hbm, 186, rfl⟩
abbrev main_while0b_v110 : Ref sig .tc := ⟨.hbm, 187, rfl⟩
abbrev main_while0b_v111 : Ref sig .tc := ⟨.hbm, 188, rfl⟩
abbrev main_while0b_c_39 : Ref sig .tc := ⟨.hbm, 189, rfl⟩
abbrev main_while0b_v112 : Ref sig .tc := ⟨.hbm, 190, rfl⟩
abbrev main_while0b_call3_v0 : Ref sig .tc := ⟨.hbm, 191, rfl⟩
abbrev main_while0b_call3_c : Ref sig .tc := ⟨.hbm, 192, rfl⟩
abbrev main_while0b_call3_c_0 : Ref sig .tc := ⟨.hbm, 193, rfl⟩
abbrev main_while0b_v113 : Ref sig .tc := ⟨.hbm, 194, rfl⟩
abbrev main_while0b_c_40 : Ref sig .tc := ⟨.hbm, 195, rfl⟩
abbrev main_while0b_v114 : Ref sig .tc := ⟨.hbm, 196, rfl⟩
abbrev main_v7 : Ref sig .tc := ⟨.hbm, 197, rfl⟩

abbrev nD : Nat := 1
abbrev τ : Topo := Topo.v7x

variable {F : FTy → Type} [FloatOps F]

abbrev main_while0_count : Scf.Loop 32 := ⟨0#32, 512#32, 1#32⟩
-- ==== Proof.IdealBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.Value
public import Idealize.ShloMosaic.Lib.PointwiseCore
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The three arrays the recurrence carries: the hidden state, the cell state, the cell's target. -/
abbrev Carry (F : FTy → Type) : Type := Vec F S16x256 .f32 × Vec F S16x256 .f32 × Vec F S16x256 .f32

/-- Row block `k` (16 rows) of the input part of the pre-activations. -/
def gxRows (G : Vec F S2048x1792 .f32) (k : Fin k0_t1_loop.trips) : Vec F S16x1792 .f32 :=
  View.ld G (Rect.unit (s := S2048x1792) (k0_off1 k) S16x1792.size (k0_off1_inb k))

/-- The time gaps of step `k`. -/
def dtRows (D : Vec F S128x16x1 .f32) (k : Fin k0_t1_loop.trips) : Vec F S1x16x1 .f32 :=
  View.ld D (Rect.unit (s := S128x16x1) (k0_off2 k) S1x16x1.size (k0_off2_inb k))

/-- One step of the recurrence as the kernel computes it. -/
def trip (wh : Vec F S256x1792 .bf16) (sl : Vec F S16x1 .i32) (t0 : BitVec 32) (D : Vec F S128x16x1 .f32)
    (G : Vec F S2048x1792 .f32) (k : Fin k0_t1_loop.trips) (s : Carry F) : Carry F :=
  (k0_pay17 sl s.1 (k0_pay10 (k0_pay16 wh) s.1 s.2.1 s.2.2 (gxRows G k) (dtRows D k)) (k0_pay11 t0 0#32 1#32 k),
    k0_pay9 (k0_pay16 wh) s.1 s.2.1 s.2.2 (gxRows G k) (dtRows D k),
    k0_pay8 (k0_pay16 wh) s.1 s.2.2 (gxRows G k))

/-- The carried arrays after `n` steps of a block, started from `s`. -/
def tripsFrom (wh : Vec F S256x1792 .bf16) (sl : Vec F S16x1 .i32) (t0 : BitVec 32) (D : Vec F S128x16x1 .f32)
    (G : Vec F S2048x1792 .f32) (s : Carry F) : ℕ → Carry F
  | 0 => s
  | n + 1 => if h : n < k0_t1_loop.trips then trip wh sl t0 D G ⟨n, h⟩ (tripsFrom wh sl t0 D G s n)
      else tripsFrom wh sl t0 D G s n

/-- A load of a whole buffer reads its contents. -/
theorem readAt_whole {S : Shape} {e : EltTy} (v : View sig .tc .vmem S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- A store of a whole buffer, made last, leaves its payload. -/
theorem read_whole_write {S : Shape} {e : EltTy} (v : View sig .tc .vmem S e) {off : Fin S.rank → ℕ} (h : off = fun _ => 0)
    (inb : ∀ a, off a + S.size a ≤ S.size a) (f : v.ty.Contents (Elt F)) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

/-- The output block at an index: the block of states with its first two axes exchanged. -/
theorem pay4_apply (v : Vec F S128x16x256 .f32) (y : S16x128x256.Idx) : k0_pay4 v y = v (ix3 (y 1) (y 0) (y 2)) := by
  idx_vars y
  pointwise [k0_pay4]

/-! The carried arrays are stored as they are: reshaping an array to its own shape changes nothing. -/

/-- The hidden state is stored as it is. -/
theorem k0_pay1_eq (v : Vec F S16x256 .f32) : k0_pay1 v = v := shapeCast_self _ _
/-- The cell is stored as it is. -/
theorem k0_pay2_eq (v : Vec F S16x256 .f32) : k0_pay2 v = v := shapeCast_self _ _
/-- The target is stored as it is. -/
theorem k0_pay3_eq (v : Vec F S16x256 .f32) : k0_pay3 v = v := shapeCast_self _ _

/-- The loop over a block's steps makes 128 trips. -/
theorem trips_eq : k0_t1_loop.trips = 128 := by decide +kernel

section
variable (c : Dev nD) (i : grid0.Coords)
  (arg1 : Memref sig .tc .vmem S16x128x512 .f32) (harg1 : arg1.IsWhole) (arg2 : Memref sig .tc .vmem S128x16x1 .f32) (harg2 : arg2.IsWhole)
  (arg3 : Memref sig .tc .vmem S16x1 .i32) (harg3 : arg3.IsWhole) (arg4 : Memref sig .tc .vmem S512x1792 .bf16) (harg4 : arg4.IsWhole)
  (arg5 : Memref sig .tc .vmem S256x1792 .bf16) (harg5 : arg5.IsWhole) (arg6 : Memref sig .tc .vmem S1x1792 .f32) (harg6 : arg6.IsWhole)
  (arg7 : Memref sig .tc .vmem S16x128x256 .f32) (harg7 : arg7.IsWhole) (arg8 : Memref sig .tc .vmem S16x256 .f32) (harg8 : arg8.IsWhole)
  (arg9 : Memref sig .tc .vmem S16x256 .f32) (harg9 : arg9.IsWhole) (arg10 : Memref sig .tc .vmem S16x256 .f32) (harg10 : arg10.IsWhole)
  (arg11 : Memref sig .tc .vmem S2048x1792 .f32) (harg11 : arg11.IsWhole) (arg12 : Memref sig .tc .vmem S128x16x256 .f32) (harg12 : arg12.IsWhole)

/-- The carried arrays a trip of the loop yields are `trip`'s. -/
theorem tripR_eq (wh : Vec F S256x1792 .bf16) (sl : Vec F S16x1 .i32) (t0 : BitVec 32) (X2 : BufTy.Contents (Elt F) arg2.view.ty)
    (X11 : BufTy.Contents (Elt F) arg11.view.ty) (k : Fin k0_t1_loop.trips) (s : Carry F) :
    tripR_k0_t1 (F := F) Variants.none c none i arg1 harg1 arg2 harg2 arg3 harg3 arg4 harg4 arg5 harg5 arg6 harg6 arg7 harg7 arg8 harg8
        arg9 harg9 arg10 harg10 arg11 harg11 arg12 harg12 wh sl t0 X2 X11 k s
      = trip wh sl t0 (arg2.view.read (Elt F) X2) (arg11.view.read (Elt F) X11) k s := by
  unfold tripR_k0_t1 trip_k0_t1; rfl

/-- What a trip stores: the new hidden state, as one row of the block of states. -/
theorem tripL_eq (wh : Vec F S256x1792 .bf16) (sl : Vec F S16x1 .i32) (t0 : BitVec 32) (X2 : BufTy.Contents (Elt F) arg2.view.ty)
    (X11 : BufTy.Contents (Elt F) arg11.view.ty) (k : Fin k0_t1_loop.trips) (s : Carry F) :
    tripL_k0_t1 (F := F) Variants.none c none i arg1 harg1 arg2 harg2 arg3 harg3 arg4 harg4 arg5 harg5 arg6 harg6 arg7 harg7 arg8 harg8
        arg9 harg9 arg10 harg10 arg11 harg11 arg12 harg12 wh sl t0 X2 X11 k s
      = [⟨Rect.unit (s := S128x16x256) (k0_off3 k) S1x16x256.size (k0_off3_inb k),
          shapeCast S1x16x256 (trip wh sl t0 (arg2.view.read (Elt F) X2) (arg11.view.read (Elt F) X11) k s).1 shapeCasts_S16x256_S1x16x256⟩] := by
  unfold tripL_k0_t1 trip_k0_t1; rfl

/-- The arrays carried after `n` trips of the loop are `tripsFrom`'s. -/
theorem st_fst (wh : Vec F S256x1792 .bf16) (sl : Vec F S16x1 .i32) (t0 : BitVec 32) (X2 : BufTy.Contents (Elt F) arg2.view.ty)
    (X11 : BufTy.Contents (Elt F) arg11.view.ty) (s : Carry F) (n : ℕ) (hn : n ≤ k0_t1_loop.trips) :
    (st_k0_t1 (F := F) Variants.none c none i arg1 harg1 arg2 harg2 arg3 harg3 arg4 harg4 arg5 harg5 arg6 harg6 arg7 harg7 arg8 harg8
        arg9 harg9 arg10 harg10 arg11 harg11 arg12 harg12 wh sl t0 X2 X11 s n).1
      = tripsFrom wh sl t0 (arg2.view.read (Elt F) X2) (arg11.view.read (Elt F) X11) s n := by
  induction n with
  | zero => rfl
  | succ n ih =>
    have h := st_k0_t1_succ (F := F) Variants.none c none i arg1 harg1 arg2 harg2 arg3 harg3 arg4 harg4 arg5 harg5 arg6 harg6 arg7 harg7
      arg8 harg8 arg9 harg9 arg10 harg10 arg11 harg11 arg12 harg12 wh sl t0 X2 X11 s ⟨n, hn⟩
    rw [show n + 1 = (⟨n, hn⟩ : Fin k0_t1_loop.trips).val + 1 from rfl, h, tripR_eq, ih (Nat.le_of_succ_le hn)]
    show trip _ _ _ _ _ _ _ = dite _ _ _
    rw [dif_pos (Nat.lt_of_succ_le hn)]

/-- What the block of states reads after `n` trips, at a row before `n`: the hidden state after that row's step. -/
theorem st_snd_read (wh : Vec F S256x1792 .bf16) (sl : Vec F S16x1 .i32) (t0 : BitVec 32) (X2 : BufTy.Contents (Elt F) arg2.view.ty)
    (X11 : BufTy.Contents (Elt F) arg11.view.ty) (s : Carry F) (f : BufTy.Contents (Elt F) arg12.view.ty) (j : Fin 128) (b : Fin 16) (u : Fin 256)
    (n : ℕ) (hn : n ≤ k0_t1_loop.trips) (hy : j.val < n) :
    arg12.view.read (Elt F) (arg12.view.writes (Elt F) f
      (st_k0_t1 (F := F) Variants.none c none i arg1 harg1 arg2 harg2 arg3 harg3 arg4 harg4 arg5 harg5 arg6 harg6 arg7 harg7 arg8 harg8
        arg9 harg9 arg10 harg10 arg11 harg11 arg12 harg12 wh sl t0 X2 X11 s n).2) (ix3 j b u)
      = (tripsFrom wh sl t0 (arg2.view.read (Elt F) X2) (arg11.view.read (Elt F) X11) s (j.val + 1)).1 (ix2 b u) := by
  induction n with
  | zero => exact absurd hy (Nat.not_lt_zero _)
  | succ n ih =>
    have h := st_k0_t1_succ (F := F) Variants.none c none i arg1 harg1 arg2 harg2 arg3 harg3 arg4 harg4 arg5 harg5 arg6 harg6 arg7 harg7
      arg8 harg8 arg9 harg9 arg10 harg10 arg11 harg11 arg12 harg12 wh sl t0 X2 X11 s ⟨n, hn⟩
    rw [show n + 1 = (⟨n, hn⟩ : Fin k0_t1_loop.trips).val + 1 from rfl, h, tripL_eq]
    show arg12.view.read (Elt F) (arg12.view.writes (Elt F) f (_ :: _)) (ix3 j b u) = _
    have ho := k0_off3_eq ⟨n, hn⟩
    by_cases hyn : j.val = n
    · have hidx : (Rect.unit (s := S128x16x256) (k0_off3 ⟨n, hn⟩) S1x16x256.size (k0_off3_inb ⟨n, hn⟩)).emb (ix3 (0 : Fin 1) b u) = ix3 j b u := by
        funext a; apply Fin.ext
        rw [Rect.emb_apply]
        match a with
        | ⟨0, _⟩ => show k0_off3 ⟨n, hn⟩ 0 + 1 * 0 = j.val; rw [ho]; show n + 1 * 0 = j.val; omega
        | ⟨1, _⟩ => show k0_off3 ⟨n, hn⟩ 1 + 1 * b.val = b.val; rw [ho]; show 0 + 1 * b.val = b.val; omega
        | ⟨2, _⟩ => show k0_off3 ⟨n, hn⟩ 2 + 1 * u.val = u.val; rw [ho]; show 0 + 1 * u.val = u.val; omega
      conv_lhs => rw [← hidx]
      rw [View.read_writes_cons_emb, st_fst _ _ _ _ _ _ _ _ _ _ _ _ _ _ _ _ _ _ _ _ _ _ _ _ _ _ _ _ _ _ _ _ _ (Nat.le_of_succ_le hn)]
      have e : tripsFrom wh sl t0 (arg2.view.read (Elt F) X2) (arg11.view.read (Elt F) X11) s (j.val + 1)
          = trip wh sl t0 (arg2.view.read (Elt F) X2) (arg11.view.read (Elt F) X11) ⟨n, hn⟩
              (tripsFrom wh sl t0 (arg2.view.read (Elt F) X2) (arg11.view.read (Elt F) X11) s n) := by
        rw [hyn]; exact dif_pos (Nat.lt_of_succ_le hn)
      rw [e]
      pointwise
    · have hnot : ix3 j b u ∉ Finset.univ.map (Rect.unit (s := S128x16x256) (k0_off3 ⟨n, hn⟩) S1x16x256.size (k0_off3_inb ⟨n, hn⟩)).emb := by
        rw [Rect.map_emb_univ, Rect.mem_set_unit]
        intro hall
        have h0 : k0_off3 ⟨n, hn⟩ 0 ≤ j.val := (hall 0).1
        rw [ho] at h0
        have h1 : n ≤ j.val := h0
        have hy' : j.val < n + 1 := hy
        omega
      rw [View.writes_cons, View.read_slice_write_of_not_mem _ _ _ _ hnot]
      have hy' : j.val < n + 1 := hy
      exact ih (Nat.le_of_succ_le hn) (by omega)

/-- Whether a grid point is the first, as the kernel asks it. -/
abbrev isFirst : Prop :=
  Scalar.cmpi .ne (Scalar.extui (Scalar.cmpi .eq (BitVec.ofNat 32 (i 0).val) 0#32) : BitVec 32) 0#32 = 1#1

/-- The arrays a grid point starts its steps from: zeros at the first, what the point before left elsewhere. -/
def startOf (s : Carry F) : Carry F := if isFirst i then (k0_pay12, k0_pay13, k0_pay14) else s

variable (x : Vec F S16x128x512 .f32) (D : Vec F S128x16x1 .f32) (sl : Vec F S16x1 .i32) (wx : Vec F S512x1792 .bf16)
  (wh : Vec F S256x1792 .bf16) (b : Vec F S1x1792 .f32)

/-- The arrays carried after `n` steps of a grid point that starts from `s`. -/
def carryAt (s : Carry F) (n : ℕ) : Carry F :=
  tripsFrom wh sl (Scalar.muli (BitVec.ofNat 32 (i 0).val) 128#32) D (k0_pay15 x wx b) (startOf i s) n

/-- The block of hidden states a grid point writes: row `k` is the state after step `k`. -/
def outBlk (s : Carry F) : Vec F S16x128x256 .f32 := fun y =>
  (carryAt i x D sl wx wh b s ((y 1).val + 1)).1 (ix2 (y 0) (y 2))

local notation "𝕄" => MT nD τ sig Unit (Elt F) ℕ (UR sig nD τ) ℕ

/-- The body at one grid point: given its six input blocks, the carried arrays at `s` and the other buffers at anything, it
keeps the inputs, leaves the point's hidden states in the output block, and carries `s` on by 128 steps. -/
theorem body_run (d1 : Vec F S16x128x512 .f32) (d2 : Vec F S128x16x1 .f32) (d3 : Vec F S16x1 .i32) (d4 : Vec F S512x1792 .bf16)
    (d5 : Vec F S256x1792 .bf16) (d6 : Vec F S1x1792 .f32) (s : Carry F) (W : Waits sig Unit) (K : PUnit → sProp 𝕄) :
    iprop(owns (c : Thread nD τ) arg1 fullShare d1 ∗ owns (c : Thread nD τ) arg2 fullShare d2 ∗ owns (c : Thread nD τ) arg3 fullShare d3
        ∗ owns (c : Thread nD τ) arg4 fullShare d4 ∗ owns (c : Thread nD τ) arg5 fullShare d5 ∗ owns (c : Thread nD τ) arg6 fullShare d6
        ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (∃ d, owns (c : Thread nD τ) arg11 fullShare d) ∗ (∃ d, owns (c : Thread nD τ) arg12 fullShare d)
        ∗ owes (c : Thread nD τ) 0 W
        ∗ (iprop(owns (c : Thread nD τ) arg1 fullShare d1 ∗ owns (c : Thread nD τ) arg2 fullShare d2 ∗ owns (c : Thread nD τ) arg3 fullShare d3
            ∗ owns (c : Thread nD τ) arg4 fullShare d4 ∗ owns (c : Thread nD τ) arg5 fullShare d5 ∗ owns (c : Thread nD τ) arg6 fullShare d6
            ∗ owns (c : Thread nD τ) arg7 fullShare (outBlk i d1 d2 d3 d4 d5 d6 s)
            ∗ owns (c : Thread nD τ) arg8 fullShare (carryAt i d1 d2 d3 d4 d5 d6 s 128).1
            ∗ owns (c : Thread nD τ) arg9 fullShare (carryAt i d1 d2 d3 d4 d5 d6 s 128).2.1
            ∗ owns (c : Thread nD τ) arg10 fullShare (carryAt i d1 d2 d3 d4 d5 d6 s 128).2.2
            ∗ (∃ d, owns (c : Thread nD τ) arg11 fullShare d) ∗ (∃ d, owns (c : Thread nD τ) arg12 fullShare d)
            ∗ (∃ W', owes (c : Thread nD τ) 0 W')) -∗ K ⟨⟩))
      ⊢ wp frame (wpE (defs₀ (F := F)) Variants.none c none) Set.univ
          (cc0__ghnn_block i arg1 harg1 arg2 harg2 arg3 harg3 arg4 harg4 arg5 harg5 arg6 harg6 arg7 harg7 arg8 harg8 arg9 harg9 arg10 harg10
            arg11 harg11 arg12 harg12) K := by
  have hz2 : (![0, 0] : Fin 2 → ℕ) = fun _ => 0 := by funext a; match a with | 0 => rfl | 1 => rfl
  have hz3 : (![0, 0, 0] : Fin 3 → ℕ) = fun _ => 0 := by funext a; match a with | 0 => rfl | 1 => rfl | 2 => rfl
  by_cases hc : isFirst i
  all_goals
    simp only [cc0__ghnn_block_eq_skeleton]; unfold cc0__ghnn_block_skel
    unfold owns
    iintro ⟨⟨%f1, %h1, H1⟩, ⟨%f2, %h2, H2⟩, ⟨%f3, %h3, H3⟩, ⟨%f4, %h4, H4⟩, ⟨%f5, %h5, H5⟩, ⟨%f6, %h6, H6⟩, ⟨%d7, %f7, -, H7⟩,
      ⟨%f8, %h8, H8⟩, ⟨%f9, %h9, H9⟩, ⟨%f10, %h10, H10⟩, ⟨%d11, %f11, -, H11⟩, ⟨%d12, %f12, -, H12⟩, HW, Hk⟩
    sl_exec
    sl_step
    iapply Hk
    isplitl [H1]; · iexists _; isplitr; swap; · iexact H1
                    ipureintro; exact h1
    isplitl [H2]; · iexists _; isplitr; swap; · iexact H2
                    ipureintro; exact h2
    isplitl [H3]; · iexists _; isplitr; swap; · iexact H3
                    ipureintro; exact h3
    isplitl [H4]; · iexists _; isplitr; swap; · iexact H4
                    ipureintro; exact h4
    isplitl [H5]; · iexists _; isplitr; swap; · iexact H5
                    ipureintro; exact h5
    isplitl [H6]; · iexists _; isplitr; swap; · iexact H6
                    ipureintro; exact h6
    isplitl [H7]
    · iexists _; isplitr; swap; · iexact H7
      ipureintro
      sl_unfold_run_names
      rw [read_whole_write _ hz3]
      funext y
      rw [pay4_apply, readAt_whole _ hz3]
      refine (st_snd_read (n := k0_t1_loop.trips) (hn := le_rfl) (hy := by rw [trips_eq]; exact (y 1).isLt) ..).trans ?_
      rw [readAt_whole (S := S256x1792) _ hz2, readAt_whole (S := S16x1) _ hz2, readAt_whole (S := S16x128x512) _ hz3,
        readAt_whole (S := S512x1792) _ hz2, readAt_whole (S := S1x1792) _ hz2, read_whole_write (S := S2048x1792) _ hz2,
        h1, h2, h3, h4, h5, h6]
      unfold outBlk carryAt startOf
      first
        | rw [if_pos hc, View.readCov_unit_zero _ hz2, View.readCov_unit_zero _ hz2, View.readCov_unit_zero _ hz2]
        | rw [if_neg hc, readAt_whole (S := S16x256) _ hz2, readAt_whole (S := S16x256) _ hz2, readAt_whole (S := S16x256) _ hz2,
            h8, h9, h10]
    isplitl [H8]
    · iexists _; isplitr; swap; · iexact H8
      ipureintro
      sl_unfold_run_names
      rw [read_whole_write _ hz2, k0_pay1_eq]
      refine (congrArg (fun z : Carry F => z.1) (st_fst (n := k0_t1_loop.trips) (hn := le_rfl) ..)).trans ?_
      simp only [readAt_whole (S := S256x1792) _ hz2, readAt_whole (S := S16x1) _ hz2, readAt_whole (S := S16x128x512) _ hz3,
        readAt_whole (S := S512x1792) _ hz2, readAt_whole (S := S1x1792) _ hz2, read_whole_write (S := S2048x1792) _ hz2,
        h1, h2, h3, h4, h5, h6]
      unfold carryAt startOf
      rw [trips_eq]
      first
        | rw [if_pos hc, View.readCov_unit_zero _ hz2, View.readCov_unit_zero _ hz2, View.readCov_unit_zero _ hz2]
        | rw [if_neg hc, readAt_whole (S := S16x256) _ hz2, readAt_whole (S := S16x256) _ hz2, readAt_whole (S := S16x256) _ hz2,
            h8, h9, h10]
    isplitl [H9]
    · iexists _; isplitr; swap; · iexact H9
      ipureintro
      sl_unfold_run_names
      rw [read_whole_write _ hz2, k0_pay2_eq]
      refine (congrArg (fun z : Carry F => z.2.1) (st_fst (n := k0_t1_loop.trips) (hn := le_rfl) ..)).trans ?_
      simp only [readAt_whole (S := S256x1792) _ hz2, readAt_whole (S := S16x1) _ hz2, readAt_whole (S := S16x128x512) _ hz3,
        readAt_whole (S := S512x1792) _ hz2, readAt_whole (S := S1x1792) _ hz2, read_whole_write (S := S2048x1792) _ hz2,
        h1, h2, h3, h4, h5, h6]
      unfold carryAt startOf
      rw [trips_eq]
      first
        | rw [if_pos hc, View.readCov_unit_zero _ hz2, View.readCov_unit_zero _ hz2, View.readCov_unit_zero _ hz2]
        | rw [if_neg hc, readAt_whole (S := S16x256) _ hz2, readAt_whole (S := S16x256) _ hz2, readAt_whole (S := S16x256) _ hz2,
            h8, h9, h10]
    isplitl [H10]
    · iexists _; isplitr; swap; · iexact H10
      ipureintro
      sl_unfold_run_names
      rw [read_whole_write _ hz2, k0_pay3_eq]
      refine (congrArg (fun z : Carry F => z.2.2) (st_fst (n := k0_t1_loop.trips) (hn := le_rfl) ..)).trans ?_
      simp only [readAt_whole (S := S256x1792) _ hz2, readAt_whole (S := S16x1) _ hz2, readAt_whole (S := S16x128x512) _ hz3,
        readAt_whole (S := S512x1792) _ hz2, readAt_whole (S := S1x1792) _ hz2, read_whole_write (S := S2048x1792) _ hz2,
        h1, h2, h3, h4, h5, h6]
      unfold carryAt startOf
      rw [trips_eq]
      first
        | rw [if_pos hc, View.readCov_unit_zero _ hz2, View.readCov_unit_zero _ hz2, View.readCov_unit_zero _ hz2]
        | rw [if_neg hc, readAt_whole (S := S16x256) _ hz2, readAt_whole (S := S16x256) _ hz2, readAt_whole (S := S16x256) _ hz2,
            h8, h9, h10]
    isplitl [H11]; · iexists _, _; isplitr; swap; · iexact H11
                     ipureintro; rfl
    isplitl [H12]; · iexists _, _; isplitr; swap; · iexact H12
                     ipureintro; rfl
    iexists _; iexact HW

end

end Cert.KernelIdeal.Hand
-- ==== Proof.IdealFrame.lean ====
module

public import proofs.«01_k».proof.Proof.IdealBody
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat BodyObligation Cfg Window)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a grid point is given and what it leaves -/

/-- The carried arrays after `n` steps of grid point `t`, begun at `s`, on the blocks that point is given. -/
def ptCarry (c : Dev nD) (t : Fin cfg0.N) (s : Carry F) (n : ℕ) : Carry F :=
  carryAt (grid0.coords t) (iblk m c 0 t) (iblk m c 1 t) (iblk m c 2 t) (iblk m c 3 t) (iblk m c 4 t) (iblk m c 5 t) s n

/-- The output block grid point `t` leaves when it is begun at `s`. -/
def ptOut (c : Dev nD) (t : Fin cfg0.N) (s : Carry F) : Vec F S16x128x256 .f32 :=
  outBlk (grid0.coords t) (iblk m c 0 t) (iblk m c 1 t) (iblk m c 2 t) (iblk m c 3 t) (iblk m c 4 t) (iblk m c 5 t) s

/-- The carried arrays as grid point `n` finds them; the first point overwrites what it finds, so any value will do there. -/
def stateAt (c : Dev nD) : ℕ → Carry F
  | 0 => (k0_pay12, k0_pay13, k0_pay14)
  | n + 1 => if h : n < cfg0.N then ptCarry m c ⟨n, h⟩ (stateAt c n) 128 else stateAt c n

/-- A point's 128 steps lead from what it finds to what the next point finds. -/
theorem stateAt_succ (c : Dev nD) (t : Fin cfg0.N) : stateAt m c (t.val + 1) = ptCarry m c t (stateAt m c t.val) 128 := by
  rw [stateAt, dif_pos t.isLt]

/-- The first grid point is the one the kernel resets the carried arrays at. -/
theorem isFirst_of_zero (t : Fin cfg0.N) (h : t.val = 0) : isFirst (grid0.coords t) := by
  have : ∀ t : Fin grid0.N, t.val = 0 → isFirst (grid0.coords t) := by decide +kernel
  exact this t h

/-- The first grid point does not see the carried arrays it is given. -/
theorem startOf_congr (t : Fin cfg0.N) (s s' : Carry F) (h : t.val ≠ 0 → s = s') :
    startOf (grid0.coords t) s = startOf (grid0.coords t) s' := by
  by_cases h0 : t.val = 0
  · unfold startOf; rw [if_pos (isFirst_of_zero t h0), if_pos (isFirst_of_zero t h0)]
  · rw [h h0]

/-- So what it carries on does not depend on them, -/
theorem ptCarry_congr (c : Dev nD) (t : Fin cfg0.N) (s s' : Carry F) (h : t.val ≠ 0 → s = s') (n : ℕ) :
    ptCarry m c t s n = ptCarry m c t s' n := by
  unfold ptCarry carryAt; rw [startOf_congr t s s' h]

/-- and neither does the block it writes. -/
theorem ptOut_congr (c : Dev nD) (t : Fin cfg0.N) (s s' : Carry F) (h : t.val ≠ 0 → s = s') :
    ptOut m c t s = ptOut m c t s' := by
  unfold ptOut outBlk; funext y
  exact congrArg (fun z : Carry F => z.1 (ix2 (y 0) (y 2))) (ptCarry_congr m c t s s' h _)

/-! ## The proof data -/

/-- What is held between grid points: the three carried arrays at the state reached (at anything before the first point),
    the two other scratch buffers at anything, and the generator's register. -/
def held (c : Dev nD) (n : ℕ) : sProp 𝕄 :=
  iprop((∃ s : Carry F, ⌜n ≠ 0 → s = stateAt m c n⌝
      ∗ owns (c : Thread nD τ) (Memref.whole cc0_scratch0) fullShare s.1
      ∗ owns (c : Thread nD τ) (Memref.whole cc0_scratch1) fullShare s.2.1
      ∗ owns (c : Thread nD τ) (Memref.whole cc0_scratch2) fullShare s.2.2)
    ∗ (∃ d, owns (c : Thread nD τ) (Memref.whole cc0_scratch3) fullShare d)
    ∗ (∃ d, owns (c : Thread nD τ) (Memref.whole cc0_scratch4) fullShare d)
    ∗ (∃ r, prngReg c r))

/-- The proof data: the inputs' blocks stay as fetched, the output's block after point `t` holds that point's states. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ptOut m c t (stateAt m c t.val)
  Φ t := held m c t.val
  q _ := fullShare
  owed _ := 0

/-- The arrays the grid finds are those the operations before it made. -/
theorem A_eq (c : Dev nD) (w : Fin cfg0.W) : (dats m 0 c).A w = V m c (Pipeline.arrRef spec0 w) := by
  dsimp only [dats]
/-! What each window's buffer holds after a point: an input's block stays as fetched, the output's is the point's states. -/

/-- The inputs' block stays. -/
theorem after_0 (c : Dev nD) (t : Fin cfg0.N) : (dats m 0 c).after 0 t = iblk m c 0 t := by dsimp only [dats]
/-- The time gaps' block stays. -/
theorem after_1 (c : Dev nD) (t : Fin cfg0.N) : (dats m 0 c).after 1 t = iblk m c 1 t := by dsimp only [dats]
/-- The lengths stay. -/
theorem after_2 (c : Dev nD) (t : Fin cfg0.N) : (dats m 0 c).after 2 t = iblk m c 2 t := by dsimp only [dats]
/-- The weights of the inputs stay. -/
theorem after_3 (c : Dev nD) (t : Fin cfg0.N) : (dats m 0 c).after 3 t = iblk m c 3 t := by dsimp only [dats]
/-- The weights of the hidden state stay. -/
theorem after_4 (c : Dev nD) (t : Fin cfg0.N) : (dats m 0 c).after 4 t = iblk m c 4 t := by dsimp only [dats]
/-- The biases stay. -/
theorem after_5 (c : Dev nD) (t : Fin cfg0.N) : (dats m 0 c).after 5 t = iblk m c 5 t := by dsimp only [dats]
/-- The output's block holds the point's hidden states. -/
theorem after_6 (c : Dev nD) (t : Fin cfg0.N) : (dats m 0 c).after 6 t = ptOut m c t (stateAt m c t.val) := by
  dsimp only [dats]

/-! ## The body at a grid point -/

/-- What is held before point `t`: what the points before it left, and the seven windows' buffers as they come. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- What is held after it: what it leaves to the next point, and the seven buffers as the proof data says. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- One grid point, run from what is held before it, leaves what is held after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after_0, after_1, after_2, after_3, after_4, after_5, after_6]
  rw [show (dats m 0 c).Φ t.castSucc = held m c t.val from rfl, show (dats m 0 c).Φ t.succ = held m c (t.val + 1) from rfl]
  unfold held Dat.owesAt Pipeline.owesWithin
  rw [show (dats m 0 c).owed t.castSucc = 0 from rfl, show (dats m 0 c).owed t.succ = 0 from rfl]
  iintro ⟨⟨⟨%s, %hs, H8, H9, H10⟩, H11, H12, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  rw [before0_0_of m (dats m 0 c) (A_eq m c 0) (after_0 m c) t d0, before0_1_of m (dats m 0 c) (A_eq m c 1) (after_1 m c) t d1,
    before0_2_of m (dats m 0 c) (A_eq m c 2) (after_2 m c) t d2, before0_3_of m (dats m 0 c) (A_eq m c 3) (after_3 m c) t d3,
    before0_4_of m (dats m 0 c) (A_eq m c 4) (after_4 m c) t d4, before0_5_of m (dats m 0 c) (A_eq m c 5) (after_5 m c) t d5]
  iapply (body_run c (grid0.coords t) _ _ _ _ _ _ _ _ _ _ _ _ _ _ _ _ _ _ _ _ _ _ _ _
    (iblk m c 0 t) (iblk m c 1 t) (iblk m c 2 t) (iblk m c 3 t) (iblk m c 4 t) (iblk m c 5 t) s W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  isplitl [H12]; · iexact H12
  isplitl [HW]; · iexact HW
  iintro ⟨H0, H1, H2, H3, H4, H5, H6, H8, H9, H10, H11, H12, ⟨%W', HW'⟩⟩
  isplitl [H8 H9 H10 H11 H12 Hg]
  · isplitl [H8 H9 H10]
    · iexists (ptCarry m c t s 128)
      isplitr; · ipureintro; exact fun _ => (ptCarry_congr m c t s _ hs 128).trans (stateAt_succ m c t).symm
      isplitl [H8]; · iexact H8
      isplitl [H9]; · iexact H9
      iexact H10
    isplitl [H11]; · iexact H11
    isplitl [H12]; · iexact H12
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  rw [← ptOut_congr m c t s _ hs]
  iexact H6

/-- The procedure the grid calls at point `t` is the kernel's body on the buffers of that point. -/
theorem defs₀_row (t : Fin cfg0.N) :
    defs₀ (F := F) .tc cfg0.body (cfg0.bodyArgs t (cfg0.slots t)) = bodyAt0 t := by
  unfold defs₀; rw [Defs.onTc_tc]

/-- Every point of the grid keeps to the proof data. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point the scratch buffers hold anything. -/
theorem held_in (c : Dev nD) : (Pipeline.ΦA (Val := Elt F) (U := UR sig nD τ) spec0 c : sProp 𝕄) ⊢ held m c 0 := by
  unfold Pipeline.ΦA held
  rw [scopedRest0_eq]
  simp only [owns_whole]
  iintro ⟨⟨⟨%f0, H0⟩, ⟨%f1, H1⟩, ⟨%f2, H2⟩, ⟨%f3, H3⟩, ⟨%f4, H4⟩⟩, Hg⟩
  isplitl [H0 H1 H2]
  · iexists (f0, f1, f2)
    isplitr; · ipureintro; exact fun h => absurd rfl h
    isplitl [H0]; · iexact H0
    isplitl [H1]; · iexact H1
    iexact H2
  isplitl [H3]; · iexists _; iexact H3
  isplitl [H4]; · iexists _; iexact H4
  iexact Hg

/-- After the last point what the scratch buffers hold is forgotten. -/
theorem held_out (c : Dev nD) (n : ℕ) : held m c n ⊢ (Pipeline.ΦA (Val := Elt F) (U := UR sig nD τ) spec0 c : sProp 𝕄) := by
  unfold Pipeline.ΦA held
  rw [scopedRest0_eq]
  simp only [owns_whole]
  iintro ⟨⟨%s, -, H0, H1, H2⟩, ⟨%d3, H3⟩, ⟨%d4, H4⟩, Hg⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hg

set_option backward.isDefEq.respectTransparency.types false in
/-- The whole program runs, leaves every array as the proof data says, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => held_in m c) (hout := fun c => held_out m c _)

/-- An argument array no window writes is as it was launched. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) := by
  have keep : ∀ (b : Ref sig .tc) (h1 : b.isScoped = false) (h2 : ∀ w, (spec0 w).arr.view.ref ≠ b)
      (hV : V m c b = m ((c : Thread nD τ).loc b)), r.2.mem ((c.tc : Thread nD τ).loc b) = m ((c.tc : Thread nD τ).loc b) :=
    fun b h1 h2 hV => ((h c).2 b (Pipeline.mem_restRefs_of b h1 h2)).trans hV
  exact ⟨((h c).1 0).trans (((dats m 0 c).arrAt_in 0 rfl _).trans ((A_eq m c 0).trans (V_main_arg0 m c))),
    keep main_arg1 (by decide) (by decide) (V_main_arg1 m c),
    keep main_arg2 (by decide) (by decide) (V_main_arg2 m c),
    keep main_arg3 (by decide) (by decide) (V_main_arg3 m c),
    keep main_arg4 (by decide) (by decide) (V_main_arg4 m c),
    keep main_arg5 (by decide) (by decide) (V_main_arg5 m c),
    keep main_arg6 (by decide) (by decide) (V_main_arg6 m c),
    keep main_arg7 (by decide) (by decide) (V_main_arg7 m c),
    keep main_arg8 (by decide) (by decide) (V_main_arg8 m c),
    keep main_arg9 (by decide) (by decide) (V_main_arg9 m c),
    keep main_arg10 (by decide) (by decide) (V_main_arg10 m c),
    keep main_arg11 (by decide) (by decide) (V_main_arg11 m c),
    keep main_arg12 (by decide) (by decide) (V_main_arg12 m c),
    keep main_arg13 (by decide) (by decide) (V_main_arg13 m c),
    keep main_arg14 (by decide) (by decide) (V_main_arg14 m c),
    keep main_arg15 (by decide) (by decide) (V_main_arg15 m c),
    keep main_arg16 (by decide) (by decide) (V_main_arg16 m c)⟩

/-- The frame, at any float type: the program runs, keeps its arguments, and leaves every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨fun c => kept m h.1 c, h.2⟩) (run_main m ρ)

end Cert.KernelIdeal.Hand

end
-- ==== Proof.SameProgram.lean ====
module

public import proofs.«01_k».proof.Defs
public import proofs.«01_k».proof.Proof.Gen.Kernel
public import proofs.«01_k».proof.Proof.IdealFrame

@[expose] public section

noncomputable section

namespace Cert.Proof

open Idealize.ShloMosaic Idealize.SL.Sem

variable {F : FTy → Type} [FloatOps F]

/-! No operation is rewritten between the printed program and its idealization, so the two are one program, printed twice;
    the frame proved of the one for every float type is the frame of the other. -/

/-- The kernel's body is the idealization's. -/
theorem body_same : @Cert.Kernel.cc0__ghnn_block F _ Cert.Kernel.Gen.facts
    = @Cert.KernelIdeal.cc0__ghnn_block F _ Cert.KernelIdeal.Gen.facts := rfl

/-- The kernel's table of bodies is the idealization's. -/
theorem bodies_same : Cert.Kernel.defs₀ (F := F) = Cert.KernelIdeal.defs₀ (F := F) := by
  unfold Cert.Kernel.defs₀ Cert.KernelIdeal.defs₀
  refine congrArg (Defs.onTc (Val := Elt F)) ?_
  funext l a
  match l, a with
  | 0, (t, s) => rfl
  | ⟨_ + 1, h⟩, _ => exact absurd h (Nat.not_lt.2 (Nat.le_add_left _ _))

/-- So is the table with the pipeline's own bodies in it. -/
theorem defs_same : Cert.Kernel.defs (F := F) = Cert.KernelIdeal.defs (F := F) := by
  unfold Cert.Kernel.defs Cert.KernelIdeal.defs
  exact congrArg (Pipeline.defs (Cert.Kernel.pcfgs (F := F))) bodies_same

/-- And so is the main function. -/
theorem main_same : Cert.Kernel.main (F := F) = Cert.KernelIdeal.main (F := F) := rfl

/-- The frame of the kernel as compiled. -/
theorem frame_kernel : @Cert.quiescent_Kernel Cert.Kernel.Gen.facts := fun m ρ _ => by
  rw [defs_same, main_same]
  exact Cert.KernelIdeal.Hand.frame_all (F := Bits) m ρ

/-- The frame of its idealization. -/
theorem frame_ideal : @Cert.quiescent_KernelIdeal Cert.KernelIdeal.Gen.facts := fun m ρ _ =>
  Cert.KernelIdeal.Hand.frame_all (F := Ideal) m ρ

end Cert.Proof

end
-- ==== Proof.ReferenceFrame.lean ====
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The frame of the reference: it runs, keeps its arguments, and names no semaphore. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Cell.lean ====
module

public import Idealize.ShloMosaic.Lib.Pointwise
public import Idealize.ShloMosaic.Lib.Pointwise.Sums
public import Idealize.ShloMosaic.Lib.DynamicIndex

@[expose] public section

noncomputable section

/-! One unit of the continuous-time cell, on extended reals: what a step makes of the seven pre-activations of the unit
and of its two cell values. The seven, in the order of the weights: input gate, forget gate, output gate, the target's
input and forget gates, the candidate, the decay. -/

namespace Cert.Cell

open Idealize.ShloMosaic

/-- The softplus, as the larger of the argument and zero plus a logarithm that stays small. -/
def softplus (x : EReal) : EReal := max x 0 + Ideal.log1p (Ideal.exp (-max x (-x)))

/-- The value the cell decays towards, from its old value `ct`. -/
def target (p : Fin 7 → EReal) (ct : EReal) : EReal :=
  Ideal.logistic (p 4) * ct + Ideal.logistic (p 3) * Ideal.tanh (p 5)

/-- The cell's value once the gap `dt` has passed: the target, and what is left of the distance from it. -/
def cell (p : Fin 7 → EReal) (c ct dt : EReal) : EReal :=
  target p ct + (Ideal.logistic (p 1) * c + Ideal.logistic (p 0) * Ideal.tanh (p 5) - target p ct)
    * Ideal.exp (-softplus (p 6) * dt)

/-- The hidden value the cell shows. -/
def hidden (p : Fin 7 → EReal) (c ct dt : EReal) : EReal := Ideal.logistic (p 2) * Ideal.tanh (cell p c ct dt)

/-- Step `n` lies inside a sequence of length `len`: the comparison both programs make, of signed words. -/
def Live (n : ℕ) (len : BitVec 32) : Prop := (BitVec.ofNat 32 n).slt len = true

/-- The number of step `n < 2 ^ 31`, read as a signed word, is `n`. -/
theorem live_iff {n : ℕ} (hn : n < 2 ^ 31) (len : BitVec 32) : Live n len ↔ (n : ℤ) < len.toInt := by
  unfold Live
  rw [BitVec.slt, decide_eq_true_iff, toInt_ofNat_of_lt hn]

/-- A step inside a sequence comes after steps inside it. -/
theorem Live.of_succ {n : ℕ} (hn : n + 1 < 2 ^ 31) {len : BitVec 32} (h : Live (n + 1) len) : Live n len := by
  rw [live_iff hn] at h
  rw [live_iff (by omega)]
  push_cast at h
  omega

/-- Weighting the new value by a comparison's bit and the old one by the bit's complement chooses between the two; no
value, finite or not, is an exception. -/
theorem mask_eq (a b : BitVec 32) (x y : EReal) :
    FloatOps.uitofp (F := Ideal) FTy.f32 (IntOp.cmpi CmpIPredicate.slt a b) * x
        + (1 - FloatOps.uitofp (F := Ideal) FTy.f32 (IntOp.cmpi CmpIPredicate.slt a b)) * y
      = if a.slt b = true then x else y := by
  have one : (1 : EReal) - 1 = 0 := by rw [← EReal.coe_one, ← EReal.coe_sub, sub_self, EReal.coe_zero]
  show (((BitVec.ofBool (a.slt b)).toNat : ℝ) : EReal) * x + (1 - (((BitVec.ofBool (a.slt b)).toNat : ℝ) : EReal)) * y = _
  cases a.slt b <;> simp [one]

/-- A selection on a comparison's bit. -/
theorem select_eq (a b : BitVec 32) (x y : EReal) :
    Scalar.select (IntOp.cmpi CmpIPredicate.slt a b) x y = if a.slt b = true then x else y := by
  show (if BitVec.ofBool (a.slt b) = 1 then x else y) = _
  cases a.slt b <;> simp

end Cert.Cell

end
-- ==== Proof.KernelStep.lean ====
module

public import proofs.«01_k».proof.Proof.IdealBody
public import proofs.«01_k».proof.Proof.Cell

@[expose] public section

noncomputable section

/-! One step of the kernel's recurrence, at one row and unit, on extended reals. -/

namespace Cert.KernelIdeal.Hand

open Cert.KernelIdeal Cert.KernelIdeal.Gen
open Idealize.ShloMosaic Cert.Cell

/-- Unit `q` of gate `g` among the 1792 columns of the fused weights. -/
def col (g : Fin 7) (q : Fin 256) : Fin 1792 := ⟨256 * g.val + q.val, by omega⟩

/-- The seven pre-activations of row `b`, unit `q`: the input part, given as `g`, and the hidden state's part. -/
def kpre (w : Vec Ideal S256x1792 .bf16) (h : Vec Ideal S16x256 .f32) (G : Vec Ideal S16x1792 .f32) (b : Fin 16) (q : Fin 256) :
    Fin 7 → EReal :=
  fun g => G (ix2 b (col g q)) + ∑ i : Fin 256, h (ix2 b i) * w (ix2 i (col g q))

/-- The fused pre-activations hold each gate's in its own 256 columns. -/
theorem pay5_apply (w : Vec Ideal S256x1792 .bf16) (h : Vec Ideal S16x256 .f32) (G : Vec Ideal S16x1792 .f32) (b : Fin 16)
    (g : Fin 7) (q : Fin 256) (Q : Fin 1792) (hQ : Q.val = 256 * g.val + q.val) :
    k0_pay5 (k0_pay16 w) h G (ix2 b Q) = kpre w h G b q g := by
  obtain rfl : Q = col g q := Fin.ext hQ
  unfold kpre
  pointwise [k0_pay5, k0_pay16]

variable (w : Vec Ideal S256x1792 .bf16) (sl : Vec Ideal S16x1 .i32) (h h' c ct : Vec Ideal S16x256 .f32)
  (G : Vec Ideal S16x1792 .f32) (D : Vec Ideal S1x16x1 .f32) (b : Fin 16) (q : Fin 256)

/-- The new target. -/
theorem pay8_apply : k0_pay8 (k0_pay16 w) h ct G (ix2 b q) = target (kpre w h G b q) (ct (ix2 b q)) := by
  pointwise [k0_pay8, k0_pay7, k0_pay6]
  rw [pay5_apply w h G b 4 q _ rfl, pay5_apply w h G b 3 q _ rfl, pay5_apply w h G b 5 q _ rfl]
  rfl

/-- The new cell. -/
theorem pay9_apply : k0_pay9 (k0_pay16 w) h c ct G D (ix2 b q)
    = cell (kpre w h G b q) (c (ix2 b q)) (ct (ix2 b q)) (D (ix3 0 b 0)) := by
  pointwise [k0_pay9, k0_pay7, k0_pay6]
  rw [pay8_apply, pay5_apply w h G b 1 q _ rfl, pay5_apply w h G b 0 q _ (by simp), pay5_apply w h G b 5 q _ rfl,
    pay5_apply w h G b 6 q _ rfl, if_neg (not_not.mpr rfl), zero_sub, zero_sub]
  rfl

/-- The new hidden state, before the mask. -/
theorem pay10_apply : k0_pay10 (k0_pay16 w) h c ct G D (ix2 b q)
    = hidden (kpre w h G b q) (c (ix2 b q)) (ct (ix2 b q)) (D (ix3 0 b 0)) := by
  pointwise [k0_pay10, k0_pay6]
  rw [pay9_apply, pay5_apply w h G b 2 q _ rfl]
  rfl

/-- The mask keeps the old hidden state past a sequence's end. -/
theorem pay17_apply (t0 : BitVec 32) (k : Fin k0_t1_loop.trips) (n : ℕ)
    (hn : Scalar.addi t0 (Scf.iv 0#32 1#32 k) = BitVec.ofNat 32 n) [Decidable (Live n (sl (ix2 b 0)))] :
    k0_pay17 sl h h' (k0_pay11 t0 0#32 1#32 k) (ix2 b q) = if Live n (sl (ix2 b 0)) then h' (ix2 b q) else h (ix2 b q) := by
  pointwise [k0_pay17, k0_pay11]
  rw [hn, select_eq]
  unfold Live
  congr

end Cert.KernelIdeal.Hand

end
-- ==== Proof.HostArrays.lean ====
module

public import proofs.«01_k».proof.Proof.KernelStep
public import proofs.«01_k».proof.Proof.IdealFrame
public import Idealize.ShloMosaic.Lib.StableHlo.ReadAt

@[expose] public section

set_option maxRecDepth 16384

noncomputable section

/-! The arrays the kernel's launch is given, at an index, as elements of the arguments: the operations before the launch
transpose the time gaps, cut each weight matrix in its input rows and its hidden rows, and join the seven gates' columns. -/

namespace Cert.KernelIdeal.Hand

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The seven weight matrices among the arguments, in their order. -/
def gateW (g : Fin 7) : Vec Ideal S768x256 .f32 :=
  match g with
  | 0 => m ((c : Thread nD τ).loc main_arg3) | 1 => m ((c : Thread nD τ).loc main_arg5) | 2 => m ((c : Thread nD τ).loc main_arg7)
  | 3 => m ((c : Thread nD τ).loc main_arg9) | 4 => m ((c : Thread nD τ).loc main_arg11) | 5 => m ((c : Thread nD τ).loc main_arg13)
  | 6 => m ((c : Thread nD τ).loc main_arg15)

/-- The seven biases among the arguments, in their order. -/
def gateB (g : Fin 7) : Vec Ideal S256 .f32 :=
  match g with
  | 0 => m ((c : Thread nD τ).loc main_arg4) | 1 => m ((c : Thread nD τ).loc main_arg6) | 2 => m ((c : Thread nD τ).loc main_arg8)
  | 3 => m ((c : Thread nD τ).loc main_arg10) | 4 => m ((c : Thread nD τ).loc main_arg12) | 5 => m ((c : Thread nD τ).loc main_arg14)
  | 6 => m ((c : Thread nD τ).loc main_arg16)

/-- The time gaps, with their two axes exchanged. -/
theorem dt_arr (k : Fin 512) (b : Fin 16) : V m c main_v1 (ix3 k b 0) = m ((c : Thread nD τ).loc main_arg1) (ix2 b k) := by
  unfold V
  after_reads_at

/-- The sequences' lengths, as a column. -/
theorem len_arr (b : Fin 16) : V m c main_v2 (ix2 b 0) = m ((c : Thread nD τ).loc main_arg2) (ix1 b) := by
  unfold V
  after_reads_at

/-- Seven blocks of input rows, side by side. -/
def joinX (u : Fin 7 → Vec Ideal S512x256 .f32) : Vec Ideal S512x1792 .bf16 :=
  truncf (F := Ideal) (φ := .f32) .bf16 (concatenate S512x1792 1 (List.ofFn fun g => ⟨S512x256, u g⟩)
    concatenates_S512x256_S512x256_S512x256_S512x256_S512x256_S512x256_S512x256_S512x1792_d1) bitsLt_bf16_f32

/-- Seven blocks of hidden rows, side by side. -/
def joinH (u : Fin 7 → Vec Ideal S256x256 .f32) : Vec Ideal S256x1792 .bf16 :=
  truncf (F := Ideal) (φ := .f32) .bf16 (concatenate S256x1792 1 (List.ofFn fun g => ⟨S256x256, u g⟩)
    concatenates_S256x256_S256x256_S256x256_S256x256_S256x256_S256x256_S256x256_S256x1792_d1) bitsLt_bf16_f32

/-- Seven biases, end to end, as one row. -/
def joinB (u : Fin 7 → Vec Ideal S256 .f32) : Vec Ideal S1x1792 .f32 :=
  shapeCast S1x1792 (concatenate S1792 0 (List.ofFn fun g => ⟨S256, u g⟩)
    concatenates_S256_S256_S256_S256_S256_S256_S256_S1792_d0) shapeCasts_S1792_S1x1792

/-- The `g`th of seven joined blocks fills its own 256 columns. -/
theorem joinX_apply (u : Fin 7 → Vec Ideal S512x256 .f32) (i : Fin 512) (g : Fin 7) (q : Fin 256) :
    joinX u (ix2 i (col g q)) = u g (ix2 i q) :=
  concatenate_ofFn_apply (t := S512x1792) (s₁ := S512x256) 1 u
    concatenates_S512x256_S512x256_S512x256_S512x256_S512x256_S512x256_S512x256_S512x1792_d1 rfl 256 rfl (ix2 i (col g q)) g
    (by show (256 * g.val + q.val) / 256 = g.val; omega) (ix2 i q) (by show q.val = (256 * g.val + q.val) % 256; omega)
    (fun b hb => by
      match b with
      | ⟨0, _⟩ => rfl
      | ⟨1, _⟩ => exact absurd rfl hb)

/-- The `g`th of seven joined blocks fills its own 256 columns. -/
theorem joinH_apply (u : Fin 7 → Vec Ideal S256x256 .f32) (i : Fin 256) (g : Fin 7) (q : Fin 256) :
    joinH u (ix2 i (col g q)) = u g (ix2 i q) :=
  concatenate_ofFn_apply (t := S256x1792) (s₁ := S256x256) 1 u
    concatenates_S256x256_S256x256_S256x256_S256x256_S256x256_S256x256_S256x256_S256x1792_d1 rfl 256 rfl (ix2 i (col g q)) g
    (by show (256 * g.val + q.val) / 256 = g.val; omega) (ix2 i q) (by show q.val = (256 * g.val + q.val) % 256; omega)
    (fun b hb => by
      match b with
      | ⟨0, _⟩ => rfl
      | ⟨1, _⟩ => exact absurd rfl hb)

/-- The `g`th of seven joined biases fills its own 256 columns. -/
theorem joinB_apply (u : Fin 7 → Vec Ideal S256 .f32) (g : Fin 7) (q : Fin 256) :
    joinB u (ix2 0 (col g q)) = u g (ix1 q) := by
  unfold joinB
  rw [show ∀ v : Vec Ideal S1792 .f32, shapeCast S1x1792 v shapeCasts_S1792_S1x1792 (ix2 0 (col g q)) = v (ix1 (col g q)) from
    fun v => by pointwise]
  exact concatenate_ofFn_apply (t := S1792) (s₁ := S256) 0 u _ rfl 256 rfl (ix1 (col g q)) g
    (by show (256 * g.val + q.val) / 256 = g.val; omega) (ix1 q) (by show q.val = (256 * g.val + q.val) % 256; omega)
    (fun b hb => by
      match b with
      | ⟨0, _⟩ => exact absurd rfl hb)

/-- The input rows of the weights the launch is given. -/
theorem wx_arr : V m c main_v11
    = joinX fun g => extractStridedSlice S512x256 ![0, 0] (gateW m c g) slices_S768x256_S512x256_0_0 := by
  unfold V
  after_reads_simp
  show joinX (fun g => match g with
    | 0 => upto hostOps0 (fun b => m (c, b)) 10 (Proc.tc.devRef main_v3)
    | 1 => upto hostOps0 (fun b => m (c, b)) 10 (Proc.tc.devRef main_v4)
    | 2 => upto hostOps0 (fun b => m (c, b)) 10 (Proc.tc.devRef main_v5)
    | 3 => upto hostOps0 (fun b => m (c, b)) 10 (Proc.tc.devRef main_v6)
    | 4 => upto hostOps0 (fun b => m (c, b)) 10 (Proc.tc.devRef main_v7)
    | 5 => upto hostOps0 (fun b => m (c, b)) 10 (Proc.tc.devRef main_v8)
    | 6 => upto hostOps0 (fun b => m (c, b)) 10 (Proc.tc.devRef main_v9)) = _
  refine congrArg joinX (funext fun g => ?_)
  fin_cases g <;> (show upto hostOps0 _ _ _ = _; after_reads_simp; rfl)

/-- The hidden rows of the weights the launch is given. -/
theorem wh_arr : V m c main_v20
    = joinH fun g => extractStridedSlice S256x256 ![512, 0] (gateW m c g) slices_S768x256_S256x256_512_0 := by
  unfold V
  after_reads_simp
  show joinH (fun g => match g with
    | 0 => upto hostOps0 (fun b => m (c, b)) 19 (Proc.tc.devRef main_v12)
    | 1 => upto hostOps0 (fun b => m (c, b)) 19 (Proc.tc.devRef main_v13)
    | 2 => upto hostOps0 (fun b => m (c, b)) 19 (Proc.tc.devRef main_v14)
    | 3 => upto hostOps0 (fun b => m (c, b)) 19 (Proc.tc.devRef main_v15)
    | 4 => upto hostOps0 (fun b => m (c, b)) 19 (Proc.tc.devRef main_v16)
    | 5 => upto hostOps0 (fun b => m (c, b)) 19 (Proc.tc.devRef main_v17)
    | 6 => upto hostOps0 (fun b => m (c, b)) 19 (Proc.tc.devRef main_v18)) = _
  refine congrArg joinH (funext fun g => ?_)
  fin_cases g <;> (show upto hostOps0 _ _ _ = _; after_reads_simp; rfl)

/-- The biases the launch is given. -/
theorem bias_arr : V m c main_v22 = joinB (gateB m c) := by
  unfold V
  after_reads_simp
  show joinB (fun g => match g with
    | 0 => upto hostOps0 (fun b => m (c, b)) 21 (Proc.tc.devRef main_arg4)
    | 1 => upto hostOps0 (fun b => m (c, b)) 21 (Proc.tc.devRef main_arg6)
    | 2 => upto hostOps0 (fun b => m (c, b)) 21 (Proc.tc.devRef main_arg8)
    | 3 => upto hostOps0 (fun b => m (c, b)) 21 (Proc.tc.devRef main_arg10)
    | 4 => upto hostOps0 (fun b => m (c, b)) 21 (Proc.tc.devRef main_arg12)
    | 5 => upto hostOps0 (fun b => m (c, b)) 21 (Proc.tc.devRef main_arg14)
    | 6 => upto hostOps0 (fun b => m (c, b)) 21 (Proc.tc.devRef main_arg16)) = _
  refine congrArg joinB (funext fun g => ?_)
  fin_cases g <;> (show upto hostOps0 _ _ _ = _; after_reads_simp; rfl)

/-- An input row of the weights, at gate `g`'s unit `q`. -/
theorem wx_apply (i : Fin 512) (g : Fin 7) (q : Fin 256) :
    V m c main_v11 (ix2 i (col g q)) = gateW m c g (ix2 ⟨i.val, by omega⟩ q) := by
  rw [wx_arr]
  refine (joinX_apply _ i g q).trans ?_
  pointwise

/-- A hidden row of the weights, at gate `g`'s unit `q`. -/
theorem wh_apply (i : Fin 256) (g : Fin 7) (q : Fin 256) :
    V m c main_v20 (ix2 i (col g q)) = gateW m c g (ix2 ⟨512 + i.val, by omega⟩ q) := by
  rw [wh_arr]
  refine (joinH_apply _ i g q).trans ?_
  pointwise

/-- The bias of gate `g`'s unit `q`. -/
theorem bias_apply (g : Fin 7) (q : Fin 256) : V m c main_v22 (ix2 0 (col g q)) = gateB m c g (ix1 q) := by
  rw [bias_arr]
  exact joinB_apply _ g q

end Cert.KernelIdeal.Hand

end
-- ==== Proof.Blocks.lean ====
module

public import proofs.«01_k».proof.Proof.HostArrays

@[expose] public section

set_option maxRecDepth 16384

noncomputable section

/-! The blocks grid point `t` is given, at an index: 128 steps of the inputs and of the time gaps from step `128 * t`, and
the whole of the lengths, the weights and the biases. -/

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD) (t : Fin cfg0.N)

/-- The grid has four points. -/
theorem point_lt : t.val < 4 := by
  exact lt_of_lt_of_eq t.isLt N_0

/-- The time step point `t` makes as its `k`th. -/
def stepOf (k : Fin 128) : Fin 512 := ⟨128 * t.val + k.val, by have := point_lt t; omega⟩

/-! Which block of its array each window shows at a point, axis by axis. -/

/-- The inputs: the steps' block moves with the point. -/
theorem index_0 : win0_0.index t 0 = 0 ∧ win0_0.index t 1 = t.val ∧ win0_0.index t 2 = 0 := by
  rcases fin_N0 t with rfl | rfl | rfl | rfl <;> decide +kernel
/-- The time gaps: the steps' block moves with the point. -/
theorem index_1 : win0_1.index t 0 = t.val ∧ win0_1.index t 1 = 0 ∧ win0_1.index t 2 = 0 := by
  rcases fin_N0 t with rfl | rfl | rfl | rfl <;> decide +kernel
/-- The lengths: always the same block. -/
theorem index_2 : win0_2.index t 0 = 0 ∧ win0_2.index t 1 = 0 := by
  rcases fin_N0 t with rfl | rfl | rfl | rfl <;> decide +kernel
/-- The weights of the inputs: always the same block. -/
theorem index_3 : win0_3.index t 0 = 0 ∧ win0_3.index t 1 = 0 := by
  rcases fin_N0 t with rfl | rfl | rfl | rfl <;> decide +kernel
/-- The weights of the hidden state: always the same block. -/
theorem index_4 : win0_4.index t 0 = 0 ∧ win0_4.index t 1 = 0 := by
  rcases fin_N0 t with rfl | rfl | rfl | rfl <;> decide +kernel
/-- The biases: always the same block. -/
theorem index_5 : win0_5.index t 0 = 0 ∧ win0_5.index t 1 = 0 := by
  rcases fin_N0 t with rfl | rfl | rfl | rfl <;> decide +kernel
/-- The output: the steps' block moves with the point. -/
theorem index_6 : win0_6.index t 0 = 0 ∧ win0_6.index t 1 = t.val ∧ win0_6.index t 2 = 0 := by
  rcases fin_N0 t with rfl | rfl | rfl | rfl <;> decide +kernel

/-- The inputs' block: 128 steps of every row. -/
theorem iblk_0 (b : Fin 16) (k : Fin 128) (i : Fin 512) :
    iblk m c 0 t (ix3 b k i) = m ((c : Thread nD τ).loc main_arg0) (ix3 b (stepOf t k) i) := by
  refine Eq.trans ?_ (congrFun (V_main_arg0 m c) _)
  show V m c main_arg0 _ = V m c main_arg0 _
  refine congrArg _ (funext fun a => Fin.ext ?_)
  match a with
  | ⟨0, _⟩ => show win0_0.index t 0 * 16 + 1 * b.val = b.val; rw [(index_0 t).1]; omega
  | ⟨1, _⟩ => show win0_0.index t 1 * 128 + 1 * k.val = 128 * t.val + k.val; rw [(index_0 t).2.1]; omega
  | ⟨2, _⟩ => show win0_0.index t 2 * 512 + 1 * i.val = i.val; rw [(index_0 t).2.2]; omega

/-- The time gaps' block: the same 128 steps. -/
theorem iblk_1 (k : Fin 128) (b : Fin 16) :
    iblk m c 1 t (ix3 k b 0) = m ((c : Thread nD τ).loc main_arg1) (ix2 b (stepOf t k)) := by
  refine Eq.trans ?_ (dt_arr m c (stepOf t k) b)
  show V m c main_v1 _ = V m c main_v1 _
  refine congrArg _ (funext fun a => Fin.ext ?_)
  match a with
  | ⟨0, _⟩ => show win0_1.index t 0 * 128 + 1 * k.val = 128 * t.val + k.val; rw [(index_1 t).1]; omega
  | ⟨1, _⟩ => show win0_1.index t 1 * 16 + 1 * b.val = b.val; rw [(index_1 t).2.1]; omega
  | ⟨2, _⟩ => show win0_1.index t 2 * 1 + 1 * 0 = 0; rw [(index_1 t).2.2]

/-- The lengths, whole. -/
theorem iblk_2 (b : Fin 16) : iblk m c 2 t (ix2 b 0) = m ((c : Thread nD τ).loc main_arg2) (ix1 b) := by
  refine Eq.trans ?_ (len_arr m c b)
  show V m c main_v2 _ = V m c main_v2 _
  refine congrArg _ (funext fun a => Fin.ext ?_)
  match a with
  | ⟨0, _⟩ => show win0_2.index t 0 * 16 + 1 * b.val = b.val; rw [(index_2 t).1]; omega
  | ⟨1, _⟩ => show win0_2.index t 1 * 1 + 1 * 0 = 0; rw [(index_2 t).2]

/-- The input rows of the weights, whole. -/
theorem iblk_3 (i : Fin 512) (g : Fin 7) (q : Fin 256) :
    iblk m c 3 t (ix2 i (col g q)) = gateW m c g (ix2 ⟨i.val, by omega⟩ q) := by
  refine Eq.trans ?_ (wx_apply m c i g q)
  show V m c main_v11 _ = V m c main_v11 _
  refine congrArg _ (funext fun a => Fin.ext ?_)
  match a with
  | ⟨0, _⟩ => show win0_3.index t 0 * 512 + 1 * i.val = i.val; rw [(index_3 t).1]; omega
  | ⟨1, _⟩ => show win0_3.index t 1 * 1792 + 1 * (col g q).val = (col g q).val; rw [(index_3 t).2]; omega

/-- The hidden rows of the weights, whole. -/
theorem iblk_4 (i : Fin 256) (g : Fin 7) (q : Fin 256) :
    iblk m c 4 t (ix2 i (col g q)) = gateW m c g (ix2 ⟨512 + i.val, by omega⟩ q) := by
  refine Eq.trans ?_ (wh_apply m c i g q)
  show V m c main_v20 _ = V m c main_v20 _
  refine congrArg _ (funext fun a => Fin.ext ?_)
  match a with
  | ⟨0, _⟩ => show win0_4.index t 0 * 256 + 1 * i.val = i.val; rw [(index_4 t).1]; omega
  | ⟨1, _⟩ => show win0_4.index t 1 * 1792 + 1 * (col g q).val = (col g q).val; rw [(index_4 t).2]; omega

/-- The biases, whole. -/
theorem iblk_5 (g : Fin 7) (q : Fin 256) : iblk m c 5 t (ix2 0 (col g q)) = gateB m c g (ix1 q) := by
  refine Eq.trans ?_ (bias_apply m c g q)
  show V m c main_v22 _ = V m c main_v22 _
  refine congrArg _ (funext fun a => Fin.ext ?_)
  match a with
  | ⟨0, _⟩ => show win0_5.index t 0 * 1 + 1 * 0 = 0; rw [(index_5 t).1]
  | ⟨1, _⟩ => show win0_5.index t 1 * 1792 + 1 * (col g q).val = (col g q).val; rw [(index_5 t).2]; omega

/-! ## One step of a grid point -/

/-- The input part of the pre-activations, at row `r` of the 2048 (step, then batch row). -/
theorem pay15_apply (x : Vec Ideal S16x128x512 .f32) (wx : Vec Ideal S512x1792 .bf16) (β : Vec Ideal S1x1792 .f32) (k : Fin 128)
    (b : Fin 16) (r : Fin 2048) (hr : r.val = 16 * k.val + b.val) (Q : Fin 1792) :
    k0_pay15 x wx β (ix2 r Q) = ∑ i : Fin 512, x (ix3 b k i) * wx (ix2 i Q) + β (ix2 0 Q) := by
  pointwise [k0_pay15]
  have e : (⟨r.val % 16, by omega⟩ : Fin 16) = b := Fin.ext (by show r.val % 16 = _; omega)
  have e' : (⟨r.val / 16, by omega⟩ : Fin 128) = k := Fin.ext (by show r.val / 16 = _; omega)
  exact congrArg (· + β (ix2 0 Q)) (Finset.sum_congr rfl fun i _ =>
    congrArg (· * wx (ix2 i Q)) (congrArg x (congrArg₂ (fun b k => ix3 b k i) e e')))

/-- The rows of the input part a step loads. -/
theorem gxRows_apply (G : Vec Ideal S2048x1792 .f32) (k : Fin k0_t1_loop.trips) (b : Fin 16) (Q : Fin 1792) :
    gxRows G k (ix2 b Q) = G (ix2 ⟨16 * k.val + b.val, by have := lt_of_lt_of_eq k.isLt trips_eq; omega⟩ Q) := by
  have ho := k0_off1_eq k
  unfold gxRows View.ld
  refine congrArg G (funext fun a => Fin.ext ?_)
  match a with
  | ⟨0, _⟩ => show k0_off1 k 0 + 1 * b.val = 16 * k.val + b.val; rw [ho]; show 16 * k.val + _ = _; omega
  | ⟨1, _⟩ => show k0_off1 k 1 + 1 * Q.val = Q.val; rw [ho]; show 0 + _ = _; omega

/-- The time gaps a step loads. -/
theorem dtRows_apply (D : Vec Ideal S128x16x1 .f32) (k : Fin k0_t1_loop.trips) (b : Fin 16) :
    dtRows D k (ix3 0 b 0) = D (ix3 ⟨k.val, lt_of_lt_of_eq k.isLt trips_eq⟩ b 0) := by
  have ho := k0_off2_eq k
  unfold dtRows View.ld
  refine congrArg D (funext fun a => Fin.ext ?_)
  match a with
  | ⟨0, _⟩ => show k0_off2 k 0 + 1 * 0 = k.val; rw [ho]; rfl
  | ⟨1, _⟩ => show k0_off2 k 1 + 1 * b.val = b.val; rw [ho]; show 0 + _ = _; omega
  | ⟨2, _⟩ => show k0_off2 k 2 + 1 * 0 = 0; rw [ho]; rfl

end Cert.KernelIdeal.Hand

end
-- ==== Proof.ReferenceSteps.lean ====
module

public import proofs.«01_k».proof.Proof.Gen.ReferenceIdeal.Run
public import proofs.«01_k».proof.Proof.Gen.ReferenceIdeal.Step

@[expose] public section

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's carried buffers, read as one state. -/
def stateOf (V : Valuation τ sig (Elt F)) : State F where
  main_v6_18 := V (Proc.devRef .tc main_v6_18)
  main_v6_19 := V (Proc.devRef .tc main_v6_19)
  main_v6_20 := V (Proc.devRef .tc main_v6_20)
  main_v6_22 := V (Proc.devRef .tc main_v6_22)
  main_v6_0 := V (Proc.devRef .tc main_v6_0)
  main_v6_1 := V (Proc.devRef .tc main_v6_1)
  main_v6_2 := V (Proc.devRef .tc main_v6_2)
  main_v6_3 := V (Proc.devRef .tc main_v6_3)
  main_v6_4 := V (Proc.devRef .tc main_v6_4)
  main_v6_5 := V (Proc.devRef .tc main_v6_5)
  main_v6_6 := V (Proc.devRef .tc main_v6_6)
  main_v6_7 := V (Proc.devRef .tc main_v6_7)
  main_v6_8 := V (Proc.devRef .tc main_v6_8)
  main_v6_9 := V (Proc.devRef .tc main_v6_9)
  main_v6_10 := V (Proc.devRef .tc main_v6_10)
  main_v6_11 := V (Proc.devRef .tc main_v6_11)
  main_v6_12 := V (Proc.devRef .tc main_v6_12)
  main_v6_13 := V (Proc.devRef .tc main_v6_13)
  main_v6_14 := V (Proc.devRef .tc main_v6_14)
  main_v6_15 := V (Proc.devRef .tc main_v6_15)
  main_v6_16 := V (Proc.devRef .tc main_v6_16)

/-- The two counters of the loop stand at `j`. -/
structure Count (V : Valuation τ sig (Elt F)) (j : ℕ) : Prop where
  scan : V (Proc.devRef .tc main_v6_17) = constantI S_ 32 (BitVec.ofNat 32 j)
  time : V (Proc.devRef .tc main_v6_21) = constantI S_ 32 (BitVec.ofNat 32 j)

variable {V : Valuation τ sig (Elt F)} {j : ℕ}

/-! The values of a trip that later values share, each the value of the same name in the step read off a state. -/

set_option maxRecDepth 8192 in
theorem row_same (h : Count V j) : res_main_while0b_v10 V = Step.b7 j (stateOf V) := by
  unfold res_main_while0b_v10; rw [h.scan]; rfl
set_option maxRecDepth 8192 in
theorem z_same (h : Count V j) : res_main_while0b_v65 V = Step.b72 j (stateOf V) := by
  unfold res_main_while0b_v65; rw [row_same h]; rfl
set_option maxRecDepth 8192 in
theorem pre_same (h : Count V j) : res_main_while0b_v69 V = Step.b76 j (stateOf V) := by
  unfold res_main_while0b_v69; rw [row_same h]; rfl
set_option maxRecDepth 8192 in
theorem target_same (h : Count V j) : res_main_while0b_v76 V = Step.b96 j (stateOf V) := by
  unfold res_main_while0b_v76; rw [row_same h, z_same h]; rfl
set_option maxRecDepth 8192 in
theorem cell_same (h : Count V j) : res_main_while0b_v84 V = Step.b104 j (stateOf V) := by
  unfold res_main_while0b_v84 res_main_while0b_call2_v3 res_main_while0b_call2_cst
  rw [h.scan, target_same h, row_same h, z_same h, pre_same h]; rfl
set_option maxRecDepth 8192 in
theorem mask_same (h : Count V j) : res_main_while0b_v90 V = Step.b110 j (stateOf V) := by
  unfold res_main_while0b_v90; rw [h.time]; rfl
set_option maxRecDepth 8192 in
theorem hidden_same (h : Count V j) : res_main_while0b_v97 V = Step.b118 j (stateOf V) := by
  unfold res_main_while0b_v97
  rw [mask_same h, row_same h, cell_same h]; rfl

/-- One trip of the loop is one step of the state. -/
theorem stateOf_step (h : Count V j) : stateOf (STEP V) = step j (stateOf V) := by
  have h18 : step_main_v6_18 V = Step.b118 j (stateOf V) := hidden_same h
  have h19 : step_main_v6_19 V = Step.b126 j (stateOf V) := by
    unfold step_main_v6_19; rw [mask_same h, cell_same h]; rfl
  have h20 : step_main_v6_20 V = Step.b134 j (stateOf V) := by
    unfold step_main_v6_20; rw [mask_same h, target_same h]; rfl
  have h22 : step_main_v6_22 V = Step.b140 j (stateOf V) := by
    unfold step_main_v6_22; rw [hidden_same h, h.scan]; rfl
  unfold stateOf Step.step
  rw [STEP_main_v6_0, STEP_main_v6_1, STEP_main_v6_2, STEP_main_v6_3, STEP_main_v6_4, STEP_main_v6_5, STEP_main_v6_6, STEP_main_v6_7,
    STEP_main_v6_8, STEP_main_v6_9, STEP_main_v6_10, STEP_main_v6_11, STEP_main_v6_12, STEP_main_v6_13, STEP_main_v6_14, STEP_main_v6_15,
    STEP_main_v6_16, STEP_main_v6_18, STEP_main_v6_19, STEP_main_v6_20, STEP_main_v6_22, h18, h19, h20, h22]
  rfl

/-- One trip advances both counters. -/
theorem count_step (h : Count V j) : Count (STEP V) (j + 1) where
  scan := by
    rw [STEP_main_v6_17]; unfold step_main_v6_17; rw [h.scan]; funext i
    show BitVec.ofNat 32 j + 1#32 = BitVec.ofNat 32 (j + 1)
    rw [BitVec.ofNat_add]
  time := by
    rw [STEP_main_v6_21]; unfold step_main_v6_21; rw [h.time]; funext i
    show BitVec.ofNat 32 j + 1#32 = BitVec.ofNat 32 (j + 1)
    rw [BitVec.ofNat_add]

variable (m : (ℓ : Loc nD τ sig) → Buf (Elt F) ℓ) (c : Dev nD)

/-- The state the loop starts from: zeros, the inputs with their first two axes exchanged, the weights, the lengths. -/
def start : State F :=
  init
    (m ((c.tc : Thread nD τ).loc main_arg3)) (m ((c.tc : Thread nD τ).loc main_arg4)) (m ((c.tc : Thread nD τ).loc
    main_arg5)) (m ((c.tc : Thread nD τ).loc main_arg6)) (m ((c.tc : Thread nD τ).loc main_arg7)) (m ((c.tc : Thread nD
    τ).loc main_arg8)) (m ((c.tc : Thread nD τ).loc main_arg9)) (m ((c.tc : Thread nD τ).loc main_arg10)) (m ((c.tc : Thread
    nD τ).loc main_arg11)) (m ((c.tc : Thread nD τ).loc main_arg12)) (m ((c.tc : Thread nD τ).loc main_arg13)) (m ((c.tc :
    Thread nD τ).loc main_arg14)) (m ((c.tc : Thread nD τ).loc main_arg15)) (m ((c.tc : Thread nD τ).loc main_arg16)) (m
    ((c.tc : Thread nD τ).loc main_arg2)) (m ((c.tc : Thread nD τ).loc main_arg0)) (m ((c.tc : Thread nD τ).loc main_arg1))

/-- The state before the loop's trip `n`. -/
def refAt : ℕ → State F
  | 0 => start m c
  | n + 1 => step n (refAt n)

set_option maxRecDepth 65536 in
set_option maxHeartbeats 900000 in
/-- Both counters start at zero. -/
theorem count_start : Count (entryContents preI m c) 0 := by
  constructor <;> (simp only [entryContents, afterL_cons, afterL_nil]; after_reads_simp) <;> rfl

set_option maxRecDepth 65536 in
set_option maxHeartbeats 900000 in
/-- The loop's buffers hold the starting state when the loop begins. -/
theorem state_start : stateOf (entryContents preI m c) = start m c := by
  unfold stateOf start Step.init
  simp only [entryContents, afterL_cons, afterL_nil]; after_reads_simp; rfl

/-- Before trip `n` the loop's buffers hold the `n`th state, and its counters `n`. -/
theorem loop_at (n : ℕ) : Count (STEP^[n] (entryContents preI m c)) n ∧ stateOf (STEP^[n] (entryContents preI m c)) = refAt m c n := by
  induction n with
  | zero => exact ⟨count_start m c, state_start m c⟩
  | succ n ih =>
    rw [Function.iterate_succ_apply']
    exact ⟨count_step ih.1, (stateOf_step ih.1).trans (congrArg (step n) ih.2)⟩

/-- The reference's result: the states' history after `n` trips, with its first two axes exchanged. -/
theorem result_eq (n : ℕ) : out_main_v7 (STEP^[n] (entryContents preI m c))
    = transpose S16x512x256 [1, 0, 2] (refAt m c n).main_v6_22 transposes_S512x16x256_S16x512x256_1_0_2 := by
  rw [← (loop_at m c n).2]; rfl

end Cert.ReferenceIdeal.Hand

end
-- ==== Proof.ReferenceValue.lean ====
module

public import proofs.«01_k».proof.Proof.ReferenceSteps
public import proofs.«01_k».proof.Proof.Cell

@[expose] public section

noncomputable section

/-! One trip of the reference's loop, at one row and unit, on extended reals. -/

namespace Cert.ReferenceIdeal.Hand

open Cert.ReferenceIdeal Cert.ReferenceIdeal.Gen
open Idealize.ShloMosaic Cert.Cell
open Cert.ReferenceIdeal.Step

/-- The seven weight matrices of a state, in their order. -/
def weights (s : State Ideal) (g : Fin 7) : Vec Ideal S768x256 .f32 :=
  match g with
  | 0 => s.main_v6_2 | 1 => s.main_v6_4 | 2 => s.main_v6_6 | 3 => s.main_v6_8 | 4 => s.main_v6_10 | 5 => s.main_v6_12
  | 6 => s.main_v6_14

/-- The seven biases of a state, in their order. -/
def biases (s : State Ideal) (g : Fin 7) : Vec Ideal S256 .f32 :=
  match g with
  | 0 => s.main_v6_3 | 1 => s.main_v6_5 | 2 => s.main_v6_7 | 3 => s.main_v6_9 | 4 => s.main_v6_11 | 5 => s.main_v6_13
  | 6 => s.main_v6_15

/-- The seven pre-activations of row `b`, unit `q` at step `n`: the input's part with the bias, and the hidden state's part. -/
def rpre (n : Fin 512) (s : State Ideal) (b : Fin 16) (q : Fin 256) : Fin 7 → EReal := fun g =>
  (∑ i : Fin 512, s.main_v6_0 (ix3 n b i) * weights s g (ix2 ⟨i.val, by omega⟩ q) + biases s g (ix1 q))
    + ∑ i : Fin 256, s.main_v6_18 (ix2 b i) * weights s g (ix2 ⟨512 + i.val, by omega⟩ q)

variable (n : Fin 512) (s : State Ideal) (b : Fin 16) (q : Fin 256)

/-- The first coordinate of step `n`'s row, kept inside the array by its clamp, is `n`. -/
theorem clamp_step : (min (max (BitVec.ofNat 32 n.val).toInt 0) ((512 - 1 : ℕ) : ℤ)).toNat = n.val := by
  rw [toInt_ofNat_of_lt (by omega)]; omega

/-- The input's row at step `n`. -/
theorem b3_apply (i : Fin 512) : b3 n.val s (ix2 b i) = s.main_v6_0 (ix3 n b i) := by
  pointwise [b3, b2, b0, b1]
  congr 2
  · exact Fin.ext (clamp_step n)
  · exact Fin.ext (Nat.zero_add _)
  · exact Fin.ext (Nat.zero_add _)

/-- The time gap at step `n`. -/
theorem b6_apply : b6 n.val s (ix1 b) = s.main_v6_1 (ix2 n b) := by
  pointwise [b6, b5, b4]
  congr 2
  · exact Fin.ext (clamp_step n)
  · exact Fin.ext (Nat.zero_add _)

/-- A linear layer on the input's row joined with the hidden state: the two parts of its contraction, the bias with the first. -/
theorem layer_apply (W : Vec Ideal S768x256 .f32) (β : Vec Ideal S256 .f32) :
    addf (Host.dotGeneral (F := Ideal) (φ₁ := .f32) (φ₂ := .f32) dot_S16x768_S768x256_S16x256_1_0_0_1_n_n none (b7 n.val s) W)
        (broadcastInDim S16x256 ![0, 1] bcast_S1x256_S16x256_0_1 (broadcastInDim S1x256 ![1] bcast_S256_S1x256_1 β)) (ix2 b q)
      = (∑ i : Fin 512, s.main_v6_0 (ix3 n b i) * W (ix2 ⟨i.val, by omega⟩ q) + β (ix1 q))
        + ∑ i : Fin 256, s.main_v6_18 (ix2 b i) * W (ix2 ⟨512 + i.val, by omega⟩ q) := by
  pointwise [b7]
  simp only [b3_apply]
  exact add_right_comm _ _ _

/-- The pre-activation of the input gate. -/
theorem pre_0 : b11 n.val s (ix2 b q) = rpre n s b q 0 := layer_apply n s b q _ _
/-- The pre-activation of the forget gate. -/
theorem pre_1 : b23 n.val s (ix2 b q) = rpre n s b q 1 := layer_apply n s b q _ _
/-- The pre-activation of the output gate. -/
theorem pre_2 : b35 n.val s (ix2 b q) = rpre n s b q 2 := layer_apply n s b q _ _
/-- The pre-activation of the target's input gate. -/
theorem pre_3 : b47 n.val s (ix2 b q) = rpre n s b q 3 := layer_apply n s b q _ _
/-- The pre-activation of the target's forget gate. -/
theorem pre_4 : b59 n.val s (ix2 b q) = rpre n s b q 4 := layer_apply n s b q _ _
/-- The pre-activation of the candidate. -/
theorem pre_5 : b71 n.val s (ix2 b q) = rpre n s b q 5 := layer_apply n s b q _ _
/-- The pre-activation of the decay. -/
theorem pre_6 : b76 n.val s (ix2 b q) = rpre n s b q 6 := layer_apply n s b q _ _

/-- The reference's sigmoid, spelt with a negation, an exponential, a sum and a quotient. -/
theorem sigmoid_apply (v : Vec Ideal S16x256 .f32) :
    Host.divf (broadcastInDim S16x256 ![] bcast_S_S16x256 (constant (F := Ideal) S_ .f32 0x3F800000#32))
        (addf (broadcastInDim S16x256 ![] bcast_S_S16x256 (constant (F := Ideal) S_ .f32 0x3F800000#32)) (Host.exp (Host.negf v))) (ix2 b q)
      = Ideal.logistic (v (ix2 b q)) := by
  pointwise
  rfl

/-- The input gate. -/
theorem b19_apply : b19 n.val s (ix2 b q) = Ideal.logistic (rpre n s b q 0) :=
  (sigmoid_apply b q (b11 n.val s)).trans (congrArg _ (pre_0 n s b q))
/-- The forget gate. -/
theorem b31_apply : b31 n.val s (ix2 b q) = Ideal.logistic (rpre n s b q 1) :=
  (sigmoid_apply b q (b23 n.val s)).trans (congrArg _ (pre_1 n s b q))
/-- The output gate. -/
theorem b43_apply : b43 n.val s (ix2 b q) = Ideal.logistic (rpre n s b q 2) :=
  (sigmoid_apply b q (b35 n.val s)).trans (congrArg _ (pre_2 n s b q))
/-- The target's input gate. -/
theorem b55_apply : b55 n.val s (ix2 b q) = Ideal.logistic (rpre n s b q 3) :=
  (sigmoid_apply b q (b47 n.val s)).trans (congrArg _ (pre_3 n s b q))
/-- The target's forget gate. -/
theorem b67_apply : b67 n.val s (ix2 b q) = Ideal.logistic (rpre n s b q 4) :=
  (sigmoid_apply b q (b59 n.val s)).trans (congrArg _ (pre_4 n s b q))

/-- The new target, before the mask. -/
theorem b96_apply : b96 n.val s (ix2 b q) = target (rpre n s b q) (s.main_v6_20 (ix2 b q)) := by
  pointwise [b96, b95, b94, b72]
  rw [b67_apply, b55_apply, pre_5]
  rfl

/-- The new cell, before the mask. -/
theorem b104_apply : b104 n.val s (ix2 b q)
    = cell (rpre n s b q) (s.main_v6_19 (ix2 b q)) (s.main_v6_20 (ix2 b q)) (s.main_v6_1 (ix2 n b)) := by
  pointwise [b104, b103, b102, b101, b100, b99, b98, b97, b93, b92, b91, b90, b89, b88, b87, b86, b85, b84, b83, b82, b81,
    b80, b79, b78, b77, b72]
  rw [b96_apply, b31_apply, b19_apply, pre_5, pre_6, b6_apply, if_neg (not_not.mpr rfl)]
  rfl

/-- The new hidden state, before the mask. -/
theorem b106_apply : b106 n.val s (ix2 b q)
    = hidden (rpre n s b q) (s.main_v6_19 (ix2 b q)) (s.main_v6_20 (ix2 b q)) (s.main_v6_1 (ix2 n b)) := by
  pointwise [b106, b105]
  rw [b43_apply, b104_apply]
  rfl

variable [Decidable (Live n.val (s.main_v6_16 (ix1 b)))]

/-- The hidden state after the mask. -/
theorem b118_apply : b118 n.val s (ix2 b q) = if Live n.val (s.main_v6_16 (ix1 b)) then
    hidden (rpre n s b q) (s.main_v6_19 (ix2 b q)) (s.main_v6_20 (ix2 b q)) (s.main_v6_1 (ix2 n b))
    else s.main_v6_18 (ix2 b q) := by
  pointwise [b118, b117, b116, b115, b114, b113, b112, b111, b110, b109, b108, b107]
  rw [mask_eq, b106_apply]
  unfold Live
  congr

/-- The cell after the mask. -/
theorem b126_apply : b126 n.val s (ix2 b q) = if Live n.val (s.main_v6_16 (ix1 b)) then
    cell (rpre n s b q) (s.main_v6_19 (ix2 b q)) (s.main_v6_20 (ix2 b q)) (s.main_v6_1 (ix2 n b))
    else s.main_v6_19 (ix2 b q) := by
  pointwise [b126, b125, b124, b123, b122, b121, b120, b119, b110, b109, b108, b107]
  rw [mask_eq, b104_apply]
  unfold Live
  congr

/-- The target after the mask. -/
theorem b134_apply : b134 n.val s (ix2 b q) = if Live n.val (s.main_v6_16 (ix1 b)) then
    target (rpre n s b q) (s.main_v6_20 (ix2 b q)) else s.main_v6_20 (ix2 b q) := by
  pointwise [b134, b133, b132, b131, b130, b129, b128, b127, b110, b109, b108, b107]
  rw [mask_eq, b96_apply]
  unfold Live
  congr

omit [Decidable (Live n.val (s.main_v6_16 (ix1 b)))]

/-- The history after trip `n`: row `n` is the new hidden state, the others stay. -/
theorem b140_apply (t : Fin 512) : b140 n.val s (ix3 t b q) = if t = n then b118 n.val s (ix2 b q) else s.main_v6_22 (ix3 t b q) := by
  have h : S512x16x256.Slices ![n.val, 0, 0] S1x16x256 := ⟨rfl, fun a => by
    match a with
    | ⟨0, _⟩ => show n.val + 1 ≤ 512; omega
    | ⟨1, _⟩ => show 0 + 16 ≤ 16; omega
    | ⟨2, _⟩ => show 0 + 256 ≤ 256; omega⟩
  unfold b140
  rw [Host.dynamicUpdateSlice_eq_updateSlice (adj := ![n.val, 0, 0]) (h' := h)]
  · pointwise [b137]
    by_cases ht : t = n
    · subst ht; rw [if_pos rfl, dif_pos ⟨Nat.le_refl _, Nat.lt_succ_self _⟩]
    · rw [if_neg ht, dif_neg (fun h => ht (Fin.ext (by omega)))]
  · intro a
    match a with
    | ⟨0, _⟩ => exact clamp_step n
    | ⟨1, _⟩ => rfl
    | ⟨2, _⟩ => rfl

/-! ## What no trip changes, and the history -/

variable (m : (ℓ : Loc nD τ sig) → Buf (Elt Ideal) ℓ) (c : Dev nD)

/-- The inputs, gaps, weights, biases and lengths are those the loop started with. -/
theorem refAt_const (j : ℕ) : (refAt m c j).main_v6_0 = (start m c).main_v6_0 ∧ (refAt m c j).main_v6_1 = (start m c).main_v6_1
    ∧ (refAt m c j).main_v6_16 = (start m c).main_v6_16
    ∧ (∀ g, weights (refAt m c j) g = weights (start m c) g) ∧ (∀ g, biases (refAt m c j) g = biases (start m c) g) := by
  induction j with
  | zero => exact ⟨rfl, rfl, rfl, fun _ => rfl, fun _ => rfl⟩
  | succ j ih => exact ih

/-- Row `t` of the history, once trip `t` has run, is the hidden state that trip left. -/
theorem history (t : Fin 512) (j : ℕ) (hj : j ≤ 512) (ht : t.val < j) :
    (refAt m c j).main_v6_22 (ix3 t b q) = (refAt m c (t.val + 1)).main_v6_18 (ix2 b q) := by
  induction j with
  | zero => exact absurd ht (Nat.not_lt_zero _)
  | succ j ih =>
    show (step j (refAt m c j)).main_v6_22 (ix3 t b q) = (step t.val (refAt m c t.val)).main_v6_18 (ix2 b q)
    rw [step_main_v6_22, step_main_v6_18]
    refine (b140_apply ⟨j, hj⟩ (refAt m c j) b q t).trans ?_
    by_cases h : t = ⟨j, hj⟩
    · subst h; rw [if_pos rfl]
    · rw [if_neg h, ih (by omega) (by have : t.val ≠ j := fun e => h (Fin.ext e); omega)]
      show (step t.val (refAt m c t.val)).main_v6_18 (ix2 b q) = _
      rw [step_main_v6_18]

end Cert.ReferenceIdeal.Hand

end
-- ==== Proof.Equation.lean ====
module

public import proofs.«01_k».proof.Proof.Blocks
public import proofs.«01_k».proof.Proof.ReferenceValue

@[expose] public section

set_option maxRecDepth 16384

noncomputable section

/-! The two recurrences agree. The kernel's hidden state is the reference's at every step; its cell and target are the
reference's on every row whose sequence still runs, and past a sequence's end, where the kernel goes on changing them and
the reference does not, no hidden state depends on them any more. -/

namespace Cert.Equation

open Idealize.ShloMosaic Idealize.ShloMosaic.TcCoe
open Cert.Cell
open Cert.KernelIdeal Cert.KernelIdeal.Gen Cert.KernelIdeal.Hand
open Cert.ReferenceIdeal.Step (State step)
open Cert.ReferenceIdeal.Hand (weights biases rpre refAt start)

variable (m : (ℓ : Loc nD τ sig) → Buf (Elt Ideal) ℓ) (c : Dev nD)

/-- A state of the reference holds the kernel's arguments: inputs and gaps with their first two axes exchanged, lengths,
weights and biases as they are. -/
structure Holds (S : State Ideal) : Prop where
  x (n : Fin 512) (b : Fin 16) (i : Fin 512) :
    S.main_v6_0 (ix3 n b i) = m ((c : Thread nD τ).loc main_arg0) (ix3 b n i)
  dt (n : Fin 512) (b : Fin 16) : S.main_v6_1 (ix2 n b) = m ((c : Thread nD τ).loc main_arg1) (ix2 b n)
  len (b : Fin 16) : S.main_v6_16 (ix1 b) = m ((c : Thread nD τ).loc main_arg2) (ix1 b)
  W (g : Fin 7) : weights S g = gateW m c g
  β (g : Fin 7) : biases S g = gateB m c g

/-- The relation of the kernel's carried arrays to the reference's state before step `n`. -/
structure Rel (n : ℕ) (K : Carry Ideal) (S : State Ideal) : Prop where
  hid (b : Fin 16) (q : Fin 256) : K.1 (ix2 b q) = S.main_v6_18 (ix2 b q)
  cel (b : Fin 16) (q : Fin 256) (h : Live n (S.main_v6_16 (ix1 b))) : K.2.1 (ix2 b q) = S.main_v6_19 (ix2 b q)
  tar (b : Fin 16) (q : Fin 256) (h : Live n (S.main_v6_16 (ix1 b))) : K.2.2 (ix2 b q) = S.main_v6_20 (ix2 b q)

variable {m c} (t : Fin cfg0.N)

/-- The pre-activations agree where the hidden states do. -/
theorem pre_eq {S : State Ideal} (H : Holds m c S) (k : Fin k0_t1_loop.trips) (n : Fin 512) (hn : n.val = 128 * t.val + k.val)
    (h : Vec Ideal S16x256 .f32) (b : Fin 16) (q : Fin 256) (hh : ∀ i : Fin 256, h (ix2 b i) = S.main_v6_18 (ix2 b i)) :
    kpre (iblk m c 4 t) h (gxRows (k0_pay15 (iblk m c 0 t) (iblk m c 3 t) (iblk m c 5 t)) k) b q = rpre n S b q := by
  have hk : k.val < 128 := lt_of_lt_of_eq k.isLt trips_eq
  obtain rfl : n = stepOf t ⟨k.val, hk⟩ := Fin.ext hn
  funext g
  unfold kpre rpre
  rw [gxRows_apply, pay15_apply _ _ _ ⟨k.val, hk⟩ b _ rfl, iblk_5, H.β g, H.W g]
  refine congrArg₂ (· + ·) (congrArg (· + _) (Finset.sum_congr rfl fun i _ => ?_)) (Finset.sum_congr rfl fun i _ => ?_)
  · rw [iblk_0, iblk_3, H.x]
  · rw [iblk_4, hh]

/-- The number of step `k` of grid point `t`, as the kernel computes it in words. -/
theorem step_word (k : Fin k0_t1_loop.trips) :
    Scalar.addi (Scalar.muli (BitVec.ofNat 32 (grid0.coords t 0).val) 128#32) (Scf.iv 0#32 1#32 k.val)
      = BitVec.ofNat 32 (128 * t.val + k.val) := by
  have hc : (grid0.coords t 0).val = t.val := by
    rcases fin_N0 t with rfl | rfl | rfl | rfl <;> decide +kernel
  rw [hc]
  show BitVec.ofNat 32 t.val * 128#32 + (0#32 + BitVec.ofNat 32 k.val * 1#32) = _
  apply BitVec.eq_of_toNat_eq
  simp
  omega

open Classical in
/-- One step keeps the relation, when the two programs see the same pre-activations, gaps and lengths. -/
theorem rel_trip (w : Vec Ideal S256x1792 .bf16) (sl : Vec Ideal S16x1 .i32) (t0 : BitVec 32) (D : Vec Ideal S128x16x1 .f32)
    (G : Vec Ideal S2048x1792 .f32) (k : Fin k0_t1_loop.trips) (n : Fin 512) (K : Carry Ideal) (S : State Ideal)
    (hword : Scalar.addi t0 (Scf.iv 0#32 1#32 k.val) = BitVec.ofNat 32 n.val)
    (hlen : ∀ b : Fin 16, sl (ix2 b 0) = S.main_v6_16 (ix1 b))
    (hdt : ∀ b : Fin 16, dtRows D k (ix3 0 b 0) = S.main_v6_1 (ix2 n b))
    (hpre : ∀ (b : Fin 16) (q : Fin 256), kpre w K.1 (gxRows G k) b q = rpre n S b q)
    (R : Rel n.val K S) : Rel (n.val + 1) (trip w sl t0 D G k K) (step n.val S) := by
  refine ⟨fun b q => ?_, fun b q h => ?_, fun b q h => ?_⟩
  · rw [Cert.ReferenceIdeal.Step.step_main_v6_18, Cert.ReferenceIdeal.Hand.b118_apply n S b q]
    dsimp only [trip]
    rw [pay17_apply (n := n.val) (hn := hword), hlen]
    by_cases hl : Live n.val (S.main_v6_16 (ix1 b))
    · rw [if_pos hl, if_pos hl, pay10_apply, hpre, hdt, R.cel b q hl, R.tar b q hl]
    · rw [if_neg hl, if_neg hl, R.hid]
  · have hl : Live n.val (S.main_v6_16 (ix1 b)) := Live.of_succ (by omega) h
    rw [Cert.ReferenceIdeal.Step.step_main_v6_19, Cert.ReferenceIdeal.Hand.b126_apply n S b q, if_pos hl]
    dsimp only [trip]
    rw [pay9_apply, hpre, hdt, R.cel b q hl, R.tar b q hl]
  · have hl : Live n.val (S.main_v6_16 (ix1 b)) := Live.of_succ (by omega) h
    rw [Cert.ReferenceIdeal.Step.step_main_v6_20, Cert.ReferenceIdeal.Hand.b134_apply n S b q, if_pos hl]
    dsimp only [trip]
    rw [pay8_apply, hpre, R.tar b q hl]

/-- One step of a point keeps the relation. -/
theorem rel_step {S : State Ideal} (H : Holds m c S) {K : Carry Ideal} (k : Fin k0_t1_loop.trips)
    (R : Rel (128 * t.val + k.val) K S) :
    Rel (128 * t.val + k.val + 1)
      (trip (iblk m c 4 t) (iblk m c 2 t) (Scalar.muli (BitVec.ofNat 32 (grid0.coords t 0).val) 128#32) (iblk m c 1 t)
        (k0_pay15 (iblk m c 0 t) (iblk m c 3 t) (iblk m c 5 t)) k K)
      (step (128 * t.val + k.val) S) := by
  have hk : k.val < 128 := lt_of_lt_of_eq k.isLt trips_eq
  have ht := point_lt t
  exact rel_trip _ _ _ _ _ k ⟨128 * t.val + k.val, by omega⟩ K S (step_word t k)
    (fun b => (iblk_2 m c t b).trans (H.len b).symm)
    (fun b => (dtRows_apply _ k b).trans ((iblk_1 m c t ⟨k.val, hk⟩ b).trans (H.dt _ b).symm))
    (fun b q => pre_eq t H k ⟨128 * t.val + k.val, by omega⟩ rfl K.1 b q (fun i => R.hid b i)) R

/-! ## All steps of all points -/

/-- The first point starts from zeros, the others from what is carried. -/
theorem startOf_stateAt : startOf (grid0.coords t) (stateAt m c t.val) = stateAt m c t.val := by
  unfold startOf
  by_cases h0 : t.val = 0
  · rw [if_pos (isFirst_of_zero t h0), h0]; rfl
  · have h : ∀ t : Fin grid0.N, t.val ≠ 0 → ¬ isFirst (grid0.coords t) := by decide +kernel
    rw [if_neg (h t h0)]

variable (m' : (ℓ : Loc Cert.ReferenceIdeal.nD Cert.ReferenceIdeal.τ Cert.ReferenceIdeal.sig) → Buf (Elt Ideal) ℓ)

/-- The relation at every step of point `t`, given it where the point starts. -/
theorem rel_point (H : ∀ j, Holds m c (refAt m' c j)) (R : Rel (128 * t.val) (stateAt m c t.val) (refAt m' c (128 * t.val)))
    (k : ℕ) (hk : k ≤ 128) : Rel (128 * t.val + k) (ptCarry m c t (stateAt m c t.val) k) (refAt m' c (128 * t.val + k)) := by
  induction k with
  | zero =>
    show Rel _ (startOf (grid0.coords t) (stateAt m c t.val)) _
    rw [startOf_stateAt]
    exact R
  | succ k ih =>
    have hk' : k < k0_t1_loop.trips := by rw [trips_eq]; omega
    have h := rel_step t (H _) ⟨k, hk'⟩ (ih (by omega))
    have e : ptCarry m c t (stateAt m c t.val) (k + 1)
        = trip (iblk m c 4 t) (iblk m c 2 t) (Scalar.muli (BitVec.ofNat 32 (grid0.coords t 0).val) 128#32) (iblk m c 1 t)
          (k0_pay15 (iblk m c 0 t) (iblk m c 3 t) (iblk m c 5 t)) ⟨k, hk'⟩ (ptCarry m c t (stateAt m c t.val) k) := by
      show dite _ _ _ = _
      rw [dif_pos hk']
      rfl
    rw [e]
    exact h

/-- Both recurrences start from zeros. -/
theorem rel_zero : Rel 0 (stateAt m c 0) (refAt m' c 0) := by
  refine ⟨fun b q => ?_, fun b q _ => ?_, fun b q _ => ?_⟩
  · show k0_pay12 (F := Ideal) (ix2 b q) = Cert.ReferenceIdeal.Step.K_main_v0 (F := Ideal) (ix2 b q)
    pointwise [k0_pay12, Cert.ReferenceIdeal.Step.K_main_v0, Cert.ReferenceIdeal.Step.K_main_cst]
  · show k0_pay13 (F := Ideal) (ix2 b q) = Cert.ReferenceIdeal.Step.K_main_v1 (F := Ideal) (ix2 b q)
    pointwise [k0_pay13, Cert.ReferenceIdeal.Step.K_main_v1, Cert.ReferenceIdeal.Step.K_main_cst_0]
  · show k0_pay14 (F := Ideal) (ix2 b q) = Cert.ReferenceIdeal.Step.K_main_v2 (F := Ideal) (ix2 b q)
    pointwise [k0_pay14, Cert.ReferenceIdeal.Step.K_main_v2, Cert.ReferenceIdeal.Step.K_main_cst_1]

/-- The relation where each point starts. -/
theorem rel_start (H : ∀ j, Holds m c (refAt m' c j)) (n : ℕ) (hn : n ≤ 4) :
    Rel (128 * n) (stateAt m c n) (refAt m' c (128 * n)) := by
  induction n with
  | zero => exact rel_zero m'
  | succ n ih =>
    have hN : n < cfg0.N := lt_of_lt_of_eq (show n < 4 by omega) N_0.symm
    rw [stateAt_succ m c ⟨n, hN⟩]
    exact rel_point ⟨n, hN⟩ m' H (ih (by omega)) 128 (Nat.le_refl _)

/-- The block a point writes holds the reference's hidden states after its 128 steps. -/
theorem ptOut_eq (H : ∀ j, Holds m c (refAt m' c j)) (b : Fin 16) (k : Fin 128) (q : Fin 256) :
    ptOut m c t (stateAt m c t.val) (ix3 b k q) = (refAt m' c (128 * t.val + k.val + 1)).main_v6_18 (ix2 b q) :=
  (rel_point t m' H (rel_start m' H t.val (by have := point_lt t; omega)) (k.val + 1) (by omega)).hid b q

end Cert.Equation

end
-- ==== Proof.Result.lean ====
module

public import proofs.«01_k».proof.Proof.Equation

@[expose] public section

set_option maxRecDepth 16384

noncomputable section

/-! The array the kernel leaves is the reference's result: the hidden state of every row after every step. -/

namespace Cert.Equation

open Idealize.ShloMosaic Idealize.ShloMosaic.TcCoe
open Cert.KernelIdeal Cert.KernelIdeal.Gen Cert.KernelIdeal.Hand
open Cert.ReferenceIdeal.Hand (weights biases refAt start history refAt_const)

variable (m : (ℓ : Loc nD τ sig) → Buf (Elt Ideal) ℓ)
variable (m' : (ℓ : Loc Cert.ReferenceIdeal.nD Cert.ReferenceIdeal.τ Cert.ReferenceIdeal.sig) → Buf (Elt Ideal) ℓ) (c : Dev nD)

/-- The two launches are given the same arguments on device `c`. -/
def SameArgs : Prop :=
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)

variable {m m' c}

/-- The reference starts from the kernel's arguments, -/
theorem holds_start (h : SameArgs m m' c) : Holds m c (start m' c) := by
  obtain ⟨h0, h1, h2, h3, h4, h5, h6, h7, h8, h9, h10, h11, h12, h13, h14, h15, h16⟩ := h
  refine ⟨fun n b i => ?_, fun n b => ?_, fun b => congrFun h2 (ix1 b), fun g => ?_, fun g => ?_⟩
  · refine Eq.trans ?_ (congrFun h0 (ix3 b n i))
    pointwise [start, Cert.ReferenceIdeal.Step.init, Cert.ReferenceIdeal.Step.A_main_v3]
  · refine Eq.trans ?_ (congrFun h1 (ix2 b n))
    pointwise [start, Cert.ReferenceIdeal.Step.init, Cert.ReferenceIdeal.Step.A_main_v4]
  · match g with
    | 0 => exact h3 | 1 => exact h5 | 2 => exact h7 | 3 => exact h9 | 4 => exact h11 | 5 => exact h13 | 6 => exact h15
  · match g with
    | 0 => exact h4 | 1 => exact h6 | 2 => exact h8 | 3 => exact h10 | 4 => exact h12 | 5 => exact h14 | 6 => exact h16

/-- and its trips keep them. -/
theorem holds (h : SameArgs m m' c) (j : ℕ) : Holds m c (refAt m' c j) := by
  have H := holds_start h
  obtain ⟨e0, e1, e2, e3, e4⟩ := refAt_const m' c j
  refine ⟨fun n b i => ?_, fun n b => ?_, fun b => ?_, fun g => (e3 g).trans (H.W g), fun g => (e4 g).trans (H.β g)⟩
  · rw [e0]; exact H.x n b i
  · rw [e1]; exact H.dt n b
  · rw [e2]; exact H.len b

variable (m' c)

/-- The reference's result, of its argument arrays. -/
def refOut : Vec Ideal S16x512x256 .f32 :=
  transpose Cert.ReferenceIdeal.S16x512x256 [1, 0, 2] (refAt m' c 512).main_v6_22
    Cert.ReferenceIdeal.Gen.facts.transposes_S512x16x256_S16x512x256_1_0_2

/-- It holds, at row `b`, step `s` and unit `q`, the hidden state after step `s`. -/
theorem refOut_apply (b : Fin 16) (s : Fin 512) (q : Fin 256) :
    refOut m' c (ix3 b s q) = (refAt m' c (s.val + 1)).main_v6_18 (ix2 b q) := by
  refine Eq.trans ?_ (history b q m' c s 512 (Nat.le_refl _) s.isLt)
  unfold refOut
  generalize refAt m' c 512 = S
  pointwise

variable {m' c} (t : Fin cfg0.N)

/-- What point `t` writes back is its 128 steps of the reference's result. -/
theorem flushed_eq (h : SameArgs m m' c) :
    (dats m 0 c).flushed 6 t = (win0_6.blk t).view.read (Elt Ideal) (refOut m' c) := by
  show (cfg0.win 6).cut (grid0.coords t) ((dats m 0 c).after 6 t) = _
  rw [after_6]
  funext y
  show ptOut m c t (stateAt m c t.val) (ix3 (y 0) (y 1) (y 2)) = _
  rw [ptOut_eq t m' (holds h) (y 0) (y 1) (y 2)]
  refine (refOut_apply m' c (y 0) (stepOf t (y 1)) (y 2)).symm.trans ?_
  show refOut m' c _ = refOut m' c _
  refine congrArg _ (funext fun a => Fin.ext ?_)
  match a with
  | ⟨0, _⟩ => show (y 0).val = win0_6.index t 0 * 16 + 1 * (y 0).val; rw [(index_6 t).1]; omega
  | ⟨1, _⟩ => show 128 * t.val + (y 1).val = win0_6.index t 1 * 128 + 1 * (y 1).val; rw [(index_6 t).2.1]; omega
  | ⟨2, _⟩ => show (y 2).val = win0_6.index t 2 * 256 + 1 * (y 2).val; rw [(index_6 t).2.2]; omega

/-- The block point `t` writes: every row, the point's 128 steps, every unit. -/
theorem mem_blk (i : S16x512x256.Idx) :
    i ∈ ((cfg0.win 6).blk t).view.set ↔ 128 * t.val ≤ (i 1).val ∧ (i 1).val < 128 * t.val + 128 := by
  show i ∈ ((View.whole main_v23).slice (win0_6.rect t)).set ↔ _
  rw [View.set_slice_whole, Rect.mem_set_unit]
  have extent : win0_6.xsize (grid0.coords t) 0 = 16 ∧ win0_6.xsize (grid0.coords t) 1 = 128
      ∧ win0_6.xsize (grid0.coords t) 2 = 256 := by
    rcases fin_N0 t with rfl | rfl | rfl | rfl <;> decide +kernel
  have h0 : (i 0).val < 16 := (i 0).isLt
  have h2 : (i 2).val < 256 := (i 2).isLt
  have axis (a : Fin 3) (lo n : ℕ) (hlo : win0_6.index t a * win0_6.size a = lo) (hn : win0_6.xsize (grid0.coords t) a = n) :
      (win0_6.index t a * win0_6.size a ≤ (i a).val ∧ (i a).val < win0_6.index t a * win0_6.size a + win0_6.xsize (grid0.coords t) a)
        ↔ lo ≤ (i a).val ∧ (i a).val < lo + n := by rw [hlo, hn]
  have a0 := axis 0 0 16 (by rw [(index_6 t).1]; exact Nat.zero_mul _) extent.1
  have a1 := axis 1 (128 * t.val) 128 (by rw [(index_6 t).2.1]; exact Nat.mul_comm _ _) extent.2.1
  have a2 := axis 2 0 256 (by rw [(index_6 t).2.2]; exact Nat.zero_mul _) extent.2.2
  refine ⟨fun h => a1.mp (h 1), fun h a => ?_⟩
  match a with
  | ⟨0, _⟩ => exact a0.mpr (by omega)
  | ⟨1, _⟩ => exact a1.mpr h
  | ⟨2, _⟩ => exact a2.mpr (by omega)

/-- Every place of the result lies in the block of the point that makes its step. -/
theorem cover (i : S16x512x256.Idx) : ∃ t : Fin cfg0.N, (cfg0.win 6).flush t = true ∧ i ∈ ((cfg0.win 6).blk t).view.set := by
  have h1 : (i 1).val < 512 := (i 1).isLt
  refine ⟨⟨(i 1).val / 128, lt_of_lt_of_eq (show (i 1).val / 128 < 4 by omega) N_0.symm⟩, flush0_6 _, (mem_blk _ i).mpr ?_⟩
  dsimp only
  omega

/-- The kernel's result array, after its last point, is the reference's result. -/
theorem result (h : SameArgs m m' c) : (dats m 0 c).arrAt 6 cfg0.N = refOut m' c :=
  (dats m 0 c).arrAt_eq_of_cover 6 (refOut m' c) (fun t _ => flushed_eq t h) cover

end Cert.Equation

end
-- ==== Proof.Algebraic.lean ====
module

public import proofs.«01_k».proof.Defs
public import proofs.«01_k».proof.Proof.Result

@[expose] public section

noncomputable section

namespace Cert.Proof

open Idealize.ShloMosaic Idealize.SL.Sem

/-- Launched on equal arguments, the kernel and the reference both run, keep their arguments and leave the same extended
reals: the hidden state of every row after every step. -/
theorem algebraic : @Cert.algebraic_KernelIdeal_ReferenceIdeal Cert.KernelIdeal.Gen.facts Cert.ReferenceIdeal.Gen.facts :=
  fun m g m' g' _ same =>
    ⟨fun c => Cert.Equation.refOut m' c,
      (θ_run Cert.KernelIdeal.defs _ _).mono
        (fun _ h c => ⟨((h.1 c).1 6).trans (Cert.Equation.result (same c)), Cert.KernelIdeal.Hand.kept m h.1 c⟩)
        (Cert.KernelIdeal.Hand.run_main (F := Ideal) m g),
      (θ_run Cert.ReferenceIdeal.defs _ _).mono
        (fun _ h c => ⟨(h c).1.trans (Cert.ReferenceIdeal.Hand.result_eq m' c 512), (h c).2⟩)
        (Cert.ReferenceIdeal.Value.run (F := Ideal) m' g')⟩

end Cert.Proof

end
-- ==== Proof.lean ====
module

public import proofs.«01_k».proof.Defs
public import proofs.«01_k».proof.Proof.SameProgram
public import proofs.«01_k».proof.Proof.ReferenceFrame
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Step

@[expose] public section

noncomputable section

namespace Cert.Proof

open Idealize.ShloMosaic Idealize.SL.Sem

/-- The certificate's claim. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
